-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_indices) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192x3 : Shape := ⟨3, ![32, 8192, 3]⟩
abbrev S3x512 : Shape := ⟨2, ![3, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S32x8192x1 : Shape := ⟨3, ![32, 8192, 1]⟩
abbrev S32x8192 : Shape := ⟨2, ![32, 8192]⟩
abbrev S32x128 : Shape := ⟨2, ![32, 128]⟩
abbrev S32 : Shape := ⟨1, ![32]⟩
abbrev S32x1 : Shape := ⟨2, ![32, 1]⟩
abbrev S32x128x1 : Shape := ⟨3, ![32, 128, 1]⟩
abbrev S32x128x3 : Shape := ⟨3, ![32, 128, 3]⟩
abbrev S32x128x1x3 : Shape := ⟨4, ![32, 128, 1, 3]⟩
abbrev S32x1x8192x3 : Shape := ⟨4, ![32, 1, 8192, 3]⟩
abbrev S32x128x8192x3 : Shape := ⟨4, ![32, 128, 8192, 3]⟩
abbrev S_ : Shape := ⟨0, ![]⟩
abbrev S32x128x8192 : Shape := ⟨3, ![32, 128, 8192]⟩
abbrev S32x128x32 : Shape := ⟨3, ![32, 128, 32]⟩
abbrev S32x4096 : Shape := ⟨2, ![32, 4096]⟩
abbrev S32x4096x1 : Shape := ⟨3, ![32, 4096, 1]⟩
abbrev S1 : Shape := ⟨1, ![1]⟩
abbrev S1x1x1 : Shape := ⟨3, ![1, 1, 1]⟩
abbrev S32x4096x3 : Shape := ⟨3, ![32, 4096, 3]⟩
abbrev S32x128x32x3 : Shape := ⟨4, ![32, 128, 32, 3]⟩
abbrev S131072x3 : Shape := ⟨2, ![131072, 3]⟩
abbrev S131072x512 : Shape := ⟨2, ![131072, 512]⟩
abbrev S1x512 : Shape := ⟨2, ![1, 512]⟩
abbrev S131072x768 : Shape := ⟨2, ![131072, 768]⟩
abbrev S1x768 : Shape := ⟨2, ![1, 768]⟩
abbrev S32x128x32x768 : Shape := ⟨4, ![32, 128, 32, 768]⟩
abbrev S32x128x768 : Shape := ⟨3, ![32, 128, 768]⟩

abbrev nBuf : Space → Nat
  | .hbm => 109
  | .vmem => 7
  | .smem => 0
  | _ => 0

abbrev bufTy : (tb : Table) → Fin (tcTables nBuf tb) → BufTy
  | .hbm, ⟨0, _⟩ => ⟨S32x8192x3, .f32⟩
  | .hbm, ⟨1, _⟩ => ⟨S3x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x768, .f32⟩
  | .hbm, ⟨8, _⟩ => ⟨S768, .f32⟩
  | .hbm, ⟨9, _⟩ => ⟨S32x8192x1, .f32⟩
  | .hbm, ⟨10, _⟩ => ⟨S32x8192, .f32⟩
  | .hbm, ⟨11, _⟩ => ⟨S32x8192x1, .f32⟩
  | .hbm, ⟨12, _⟩ => ⟨S32x8192, .f32⟩
  | .hbm, ⟨13, _⟩ => ⟨S32x8192x1, .f32⟩
  | .hbm, ⟨14, _⟩ => ⟨S32x8192, .f32⟩
  | .hbm, ⟨15, _⟩ => ⟨S32x128, .i32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S32x128x1, .f32⟩
  | .hbm, ⟨20, _⟩ => ⟨S32x128x1, .f32⟩
  | .hbm, ⟨21, _⟩ => ⟨S32x128x1, .f32⟩
  | .hbm, ⟨22, _⟩ => ⟨S32x128x3, .f32⟩
  | .hbm, ⟨23, _⟩ => ⟨S32x128x1x3, .f32⟩
  | .hbm, ⟨24, _⟩ => ⟨S32x1x8192x3, .f32⟩
  | .hbm, ⟨25, _⟩ => ⟨S32x128x8192x3, .f32⟩
  | .hbm, ⟨26, _⟩ => ⟨S32x128x8192x3, .f32⟩
  | .hbm, ⟨27, _⟩ => ⟨S32x128x8192x3, .f32⟩
  | .hbm, ⟨28, _⟩ => ⟨S32x128x8192x3, .f32⟩
  | .hbm, ⟨29, _⟩ => ⟨S_, .f32⟩
  | .hbm, ⟨30, _⟩ => ⟨S32x128x8192, .f32⟩
  | .hbm, ⟨31, _⟩ => ⟨S32x128x8192, .f32⟩
  | .hbm, ⟨32, _⟩ => ⟨S32x128x32, .f32⟩
  | .hbm, ⟨33, _⟩ => ⟨S32x128x32, .i32⟩
  | .hbm, ⟨34, _⟩ => ⟨S32x4096, .i32⟩
  | .hbm, ⟨35, _⟩ => ⟨S32x4096x1, .i32⟩
  | .hbm, ⟨36, _⟩ => ⟨S_, .i32⟩
  | .hbm, ⟨37, _⟩ => ⟨S32x4096x1, .i32⟩
  | .hbm, ⟨38, _⟩ => ⟨S32x4096x1, .i1⟩
  | .hbm, ⟨39, _⟩ => ⟨S_, .i32⟩
  | .hbm, ⟨40, _⟩ => ⟨S32x4096x1, .i32⟩
  | .hbm, ⟨41, _⟩ => ⟨S32x4096x1, .i32⟩
  | .hbm, ⟨42, _⟩ => ⟨S32x4096x1, .i32⟩
  | .hbm, ⟨43, _⟩ => ⟨S1, .i32⟩
  | .hbm, ⟨44, _⟩ => ⟨S_, .i32⟩
  | .hbm, ⟨45, _⟩ => ⟨S32x4096x1, .i32⟩
  | .hbm, ⟨46, _⟩ => ⟨S32x4096x1, .i1⟩
  | .hbm, ⟨47, _⟩ => ⟨S1x1x1, .i32⟩
  | .hbm, ⟨48, _⟩ => ⟨S32x4096x1, .i32⟩
  | .hbm, ⟨49, _⟩ => ⟨S32x4096x1, .i1⟩
  | .hbm, ⟨50, _⟩ => ⟨S32x4096x1, .i1⟩
  | .hbm, ⟨51, _⟩ => ⟨S_, .i1⟩
  | .hbm, ⟨52, _⟩ => ⟨S32x4096, .i1⟩
  | .hbm, ⟨53, _⟩ => ⟨S32x4096x3, .f32⟩
  | .hbm, ⟨54, _⟩ => ⟨S32x4096x3, .i1⟩
  | .hbm, ⟨55, _⟩ => ⟨S_, .f32⟩
  | .hbm, ⟨56, _⟩ => ⟨S32x4096x3, .f32⟩
  | .hbm, ⟨57, _⟩ => ⟨S32x4096x3, .f32⟩
  | .hbm, ⟨58, _⟩ => ⟨S32x128x32x3, .f32⟩
  | .hbm, ⟨59, _⟩ => ⟨S32x128x1x3, .f32⟩
  | .hbm, ⟨60, _⟩ => ⟨S32x128x32x3, .f32⟩
  | .hbm, ⟨61, _⟩ => ⟨S32x128x32x3, .f32⟩
  | .hbm, ⟨62, _⟩ => ⟨S131072x3, .f32⟩
  | .hbm, ⟨63, _⟩ => ⟨S131072x512, .f32⟩
  | .hbm, ⟨64, _⟩ => ⟨S1x512, .f32⟩
  | .hbm, ⟨65, _⟩ => ⟨S131072x512, .f32⟩
  | .hbm, ⟨66, _⟩ => ⟨S131072x512, .f32⟩
  | .hbm, ⟨67, _⟩ => ⟨S_, .f32⟩
  | .hbm, ⟨68, _⟩ => ⟨S131072x512, .f32⟩
  | .hbm, ⟨69, _⟩ => ⟨S131072x512, .f32⟩
  | .hbm, ⟨70, _⟩ => ⟨S131072x512, .f32⟩
  | .hbm, ⟨71, _⟩ => ⟨S_, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S131072x512, .f32⟩
  | .hbm, ⟨76, _⟩ => ⟨S131072x512, .f32⟩
  | .hbm, ⟨77, _⟩ => ⟨S1x512, .f32⟩
  | .hbm, ⟨78, _⟩ => ⟨S131072x512, .f32⟩
  | .hbm, ⟨79, _⟩ => ⟨S131072x512, .f32⟩
  | .hbm, ⟨80, _⟩ => ⟨S_, .f32⟩
  | .hbm, ⟨81, _⟩ => ⟨S131072x512, .f32⟩
  | .hbm, ⟨82, _⟩ => ⟨S131072x512, .f32⟩
  | .hbm, ⟨83, _⟩ => ⟨S131072x512, .f32⟩
  | .hbm, ⟨84, _⟩ => ⟨S_, .f32⟩
  | .hbm, ⟨85, _⟩ => ⟨S131072x512, .f32⟩
  | .hbm, ⟨86, _⟩ => ⟨S131072x512, .f32⟩
  | .hbm, ⟨87, _⟩ => ⟨S131072x512, .f32⟩
  | .hbm, ⟨88, _⟩ => ⟨S131072x512, .f32⟩
  | .hbm, ⟨89, _⟩ => ⟨S131072x512, .f32⟩
  | .hbm, ⟨90, _⟩ => ⟨S1x512, .f32⟩
  | .hbm, ⟨91, _⟩ => ⟨S131072x512, .f32⟩
  | .hbm, ⟨92, _⟩ => ⟨S131072x512, .f32⟩
  | .hbm, ⟨93, _⟩ => ⟨S_, .f32⟩
  | .hbm, ⟨94, _⟩ => ⟨S131072x512, .f32⟩
  | .hbm, ⟨95, _⟩ => ⟨S131072x512, .f32⟩
  | .hbm, ⟨96, _⟩ => ⟨S131072x512, .f32⟩
  | .hbm, ⟨97, _⟩ => ⟨S_, .f32⟩
  | .hbm, ⟨98, _⟩ => ⟨S131072x512, .f32⟩
  | .hbm, ⟨99, _⟩ => ⟨S131072x512, .f32⟩
  | .hbm, ⟨100, _⟩ => ⟨S131072x512, .f32⟩
  | .hbm, ⟨101, _⟩ => ⟨S131072x512, .f32⟩
  | .hbm, ⟨102, _⟩ => ⟨S131072x768, .f32⟩
  | .hbm, ⟨103, _⟩ => ⟨S1x768, .f32⟩
  | .hbm, ⟨104, _⟩ => ⟨S131072x768, .f32⟩
  | .hbm, ⟨105, _⟩ => ⟨S131072x768, .f32⟩
  | .hbm, ⟨106, _⟩ => ⟨S32x128x32x768, .f32⟩
  | .hbm, ⟨107, _⟩ => ⟨S_, .f32⟩
  | .hbm, ⟨108, _⟩ => ⟨S32x128x768, .f32⟩
  | .local _ .vmem, ⟨0, _⟩ => ⟨S32x8192, .f32⟩
  | .local _ .vmem, ⟨1, _⟩ => ⟨S32x8192, .f32⟩
  | .local _ .vmem, ⟨2, _⟩ => ⟨S32x8192, .f32⟩
  | .local _ .vmem, ⟨3, _⟩ => ⟨S32x128, .i32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_values : Ref sig .tc := ⟨.hbm, 32, rfl⟩
abbrev main_indices : Ref sig .tc := ⟨.hbm, 33, rfl⟩
abbrev main_v19 : Ref sig .tc := ⟨.hbm, 34, rfl⟩
abbrev main_v20 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_1 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_4 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_16 : BitVec 32 := 0#32
  let c128_i32 : BitVec 32 := 128#32
  let v44 : BitVec 32 := Scalar.addi c0_i32_16 c128_i32
  let c1_i32 : BitVec 32 := 1#32
  ⟨c0_i32_16, v44, c1_i32⟩
abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S32x8192x3 : Shape := ⟨3, ![32, 8192, 3]⟩
abbrev S3x512 : Shape := ⟨2, ![3, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S_ : Shape := ⟨0, ![]⟩
abbrev S32x3 : Shape := ⟨2, ![32, 3]⟩
abbrev S32x1x3 : Shape := ⟨3, ![32, 1, 3]⟩
abbrev S32x8192 : Shape := ⟨2, ![32, 8192]⟩
abbrev S32 : Shape := ⟨1, ![32]⟩
abbrev S32x128 : Shape := ⟨2, ![32, 128]⟩
abbrev S1 : Shape := ⟨1, ![1]⟩
abbrev S32x1 : Shape := ⟨2, ![32, 1]⟩
abbrev S32x2 : Shape := ⟨2, ![32, 2]⟩
abbrev S32x128x1 : Shape := ⟨3, ![32, 128, 1]⟩
abbrev S1x1x1 : Shape := ⟨3, ![1, 1, 1]⟩
abbrev S32x128x3 : Shape := ⟨3, ![32, 128, 3]⟩
abbrev S32x128x1x3 : Shape := ⟨4, ![32, 128, 1, 3]⟩
abbrev S32x1x8192x3 : Shape := ⟨4, ![32, 1, 8192, 3]⟩
abbrev S32x128x8192x3 : Shape := ⟨4, ![32, 128, 8192, 3]⟩
abbrev S32x128x8192 : Shape := ⟨3, ![32, 128, 8192]⟩
abbrev S32x128x32 : Shape := ⟨3, ![32, 128, 32]⟩
abbrev S32x4096 : Shape := ⟨2, ![32, 4096]⟩
abbrev S32x4096x1 : Shape := ⟨3, ![32, 4096, 1]⟩
abbrev S32x4096x3 : Shape := ⟨3, ![32, 4096, 3]⟩
abbrev S32x128x32x3 : Shape := ⟨4, ![32, 128, 32, 3]⟩
abbrev S131072x3 : Shape := ⟨2, ![131072, 3]⟩
abbrev S131072x512 : Shape := ⟨2, ![131072, 512]⟩
abbrev S1x512 : Shape := ⟨2, ![1, 512]⟩
abbrev S131072x768 : Shape := ⟨2, ![131072, 768]⟩
abbrev S1x768 : Shape := ⟨2, ![1, 768]⟩
abbrev S32x128x32x768 : Shape := ⟨4, ![32, 128, 32, 768]⟩
abbrev S32x128x768 : Shape := ⟨3, ![32, 128, 768]⟩

abbrev nBuf : Space → Nat
  | .hbm => 192
  | .vmem => 0
  | .smem => 0
  | _ => 0

abbrev hbmTy0_0 (i : Nat) : BufTy := match i % 128 with
  | 0 => ⟨S32x8192x3, .f32⟩
  | 1 => ⟨S3x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S512x768, .f32⟩
  | 8 => ⟨S768, .f32⟩
  | 9 => ⟨S_, .f32⟩
  | 10 => ⟨S32x3, .f32⟩
  | 11 => ⟨S32x1x3, .f32⟩
  | 12 => ⟨S_, .f32⟩
  | 13 => ⟨S32x1x3, .f32⟩
  | 14 => ⟨S32x1x3, .f32⟩
  | 15 => ⟨S32x8192x3, .f32⟩
  | 16 => ⟨S32x8192x3, .f32⟩
  | 17 => ⟨S32x8192x3, .f32⟩
  | 18 => ⟨S_, .f32⟩
  | 19 => ⟨S32x8192, .f32⟩
  | 20 => ⟨S32x8192, .i32⟩
  | 21 => ⟨S_, .f32⟩
  | 22 => ⟨S_, .i32⟩
  | 23 => ⟨S32, .f32⟩
  | 24 => ⟨S32, .i32⟩
  | 25 => ⟨S_, .f32⟩
  | 26 => ⟨S32x8192, .f32⟩
  | 27 => ⟨S32, .i32⟩
  | 28 => ⟨S_, .i32⟩
  | 29 => ⟨S32x128, .i32⟩
  | 30 => ⟨S_, .i32⟩
  | 31 => ⟨S_, .i32⟩
  | 32 => ⟨S32, .i32⟩
  | 33 => ⟨S32x8192x3, .f32⟩
  | 34 => ⟨S_, .i32⟩
  | 35 => ⟨S_, .i32⟩
  | 36 => ⟨S32x8192, .f32⟩
  | 37 => ⟨S32, .i32⟩
  | 38 => ⟨S32x128, .i32⟩
  | 39 => ⟨S_, .i32⟩
  | 40 => ⟨S_, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1, .i32⟩
  | 50 => ⟨S32x128, .i32⟩
  | 51 => ⟨S_, .i32⟩
  | 52 => ⟨S32, .i32⟩
  | 53 => ⟨S32, .i1⟩
  | 54 => ⟨S_, .i32⟩
  | 55 => ⟨S32, .i32⟩
  | 56 => ⟨S32, .i32⟩
  | 57 => ⟨S32, .i32⟩
  | 58 => ⟨S_, .i32⟩
  | 59 => ⟨S32, .i32⟩
  | 60 => ⟨S32, .i1⟩
  | 61 => ⟨S_, .i32⟩
  | 62 => ⟨S32, .i32⟩
  | 63 => ⟨S32, .i32⟩
  | 64 => ⟨S32, .i32⟩
  | 65 => ⟨S32x1, .i32⟩
  | 66 => ⟨S32x1, .i32⟩
  | 67 => ⟨S32x2, .i32⟩
  | 68 => ⟨S32x3, .f32⟩
  | 69 => ⟨S32x1x3, .f32⟩
  | 70 => ⟨S32x8192x3, .f32⟩
  | 71 => ⟨S32x8192x3, .f32⟩
  | 72 => ⟨S32x8192x3, .f32⟩
  | 73 => ⟨S_, .f32⟩
  | 74 => ⟨S32x8192, .f32⟩
  | 75 => ⟨S32x8192, .f32⟩
  | 76 => ⟨S32x8192, .i32⟩
  | 77 => ⟨S_, .f32⟩
  | 78 => ⟨S_, .i32⟩
  | 79 => ⟨S32, .f32⟩
  | 80 => ⟨S32, .i32⟩
  | 81 => ⟨S_, .i32⟩
  | 82 => ⟨S_, .i32⟩
  | 83 => ⟨S32x128x1, .i32⟩
  | 84 => ⟨S_, .i32⟩
  | 85 => ⟨S32x128x1, .i32⟩
  | 86 => ⟨S32x128x1, .i1⟩
  | 87 => ⟨S_, .i32⟩
  | 88 => ⟨S32x128x1, .i32⟩
  | 89 => ⟨S32x128x1, .i32⟩
  | 90 => ⟨S32x128x1, .i32⟩
  | 91 => ⟨S1, .i32⟩
  | 92 => ⟨S_, .i32⟩
  | 93 => ⟨S32x128x1, .i32⟩
  | 94 => ⟨S32x128x1, .i1⟩
  | 95 => ⟨S1x1x1, .i32⟩
  | 96 => ⟨S32x128x1, .i32⟩
  | 97 => ⟨S32x128x1, .i1⟩
  | 98 => ⟨S32x128x1, .i1⟩
  | 99 => ⟨S_, .i1⟩
  | 100 => ⟨S32x128, .i1⟩
  | 101 => ⟨S32x128x3, .f32⟩
  | 102 => ⟨S32x128x3, .i1⟩
  | 103 => ⟨S_, .f32⟩
  | 104 => ⟨S32x128x3, .f32⟩
  | 105 => ⟨S32x128x3, .f32⟩
  | 106 => ⟨S32x128x1x3, .f32⟩
  | 107 => ⟨S32x1x8192x3, .f32⟩
  | 108 => ⟨S32x128x8192x3, .f32⟩
  | 109 => ⟨S32x128x8192x3, .f32⟩
  | 110 => ⟨S32x128x8192x3, .f32⟩
  | 111 => ⟨S32x128x8192x3, .f32⟩
  | 112 => ⟨S_, .f32⟩
  | 113 => ⟨S32x128x8192, .f32⟩
  | 114 => ⟨S32x128x8192, .f32⟩
  | 115 => ⟨S32x128x32, .f32⟩
  | 116 => ⟨S32x128x32, .i32⟩
  | 117 => ⟨S32x4096, .i32⟩
  | 118 => ⟨S32x4096x1, .i32⟩
  | 119 => ⟨S_, .i32⟩
  | 120 => ⟨S32x4096x1, .i32⟩
  | 121 => ⟨S32x4096x1, .i1⟩
  | 122 => ⟨S_, .i32⟩
  | 123 => ⟨S32x4096x1, .i32⟩
  | 124 => ⟨S32x4096x1, .i32⟩
  | 125 => ⟨S32x4096x1, .i32⟩
  | 126 => ⟨S1, .i32⟩
  | 127 => ⟨S_, .i32⟩
  | _ => ⟨S32x8192x3, .f32⟩

abbrev hbmTy0_1 (i : Nat) : BufTy := match i % 128 with
  | 0 => ⟨S32x4096x1, .i32⟩
  | 1 => ⟨S32x4096x1, .i1⟩
  | 2 => ⟨S1x1x1, .i32⟩
  | 3 => ⟨S32x4096x1, .i32⟩
  | 4 => ⟨S32x4096x1, .i1⟩
  | 5 => ⟨S32x4096x1, .i1⟩
  | 6 => ⟨S_, .i1⟩
  | 7 => ⟨S32x4096, .i1⟩
  | 8 => ⟨S32x4096x3, .f32⟩
  | 9 => ⟨S32x4096x3, .i1⟩
  | 10 => ⟨S_, .f32⟩
  | 11 => ⟨S32x4096x3, .f32⟩
  | 12 => ⟨S32x4096x3, .f32⟩
  | 13 => ⟨S32x128x32x3, .f32⟩
  | 14 => ⟨S32x128x1x3, .f32⟩
  | 15 => ⟨S32x128x32x3, .f32⟩
  | 16 => ⟨S32x128x32x3, .f32⟩
  | 17 => ⟨S131072x3, .f32⟩
  | 18 => ⟨S131072x512, .f32⟩
  | 19 => ⟨S1x512, .f32⟩
  | 20 => ⟨S131072x512, .f32⟩
  | 21 => ⟨S131072x512, .f32⟩
  | 22 => ⟨S_, .f32⟩
  | 23 => ⟨S131072x512, .f32⟩
  | 24 => ⟨S131072x512, .f32⟩
  | 25 => ⟨S131072x512, .f32⟩
  | 26 => ⟨S_, .f32⟩
  | 27 => ⟨S131072x512, .f32⟩
  | 28 => ⟨S131072x512, .f32⟩
  | 29 => ⟨S131072x512, .f32⟩
  | 30 => ⟨S131072x512, .f32⟩
  | 31 => ⟨S131072x512, .f32⟩
  | 32 => ⟨S1x512, .f32⟩
  | 33 => ⟨S131072x512, .f32⟩
  | 34 => ⟨S131072x512, .f32⟩
  | 35 => ⟨S_, .f32⟩
  | 36 => ⟨S131072x512, .f32⟩
  | 37 => ⟨S131072x512, .f32⟩
  | 38 => ⟨S131072x512, .f32⟩
  | 39 => ⟨S_, .f32⟩
  | 40 => ⟨S131072x512, .f32⟩
  | 41 => ⟨S131072x512, .f32⟩
  | 42 => ⟨S131072x512, .f32⟩
  | 43 => ⟨S131072x512, .f32⟩
  | 44 => ⟨S131072x512, .f32⟩
  | 45 => ⟨S1x512, .f32⟩
  | 46 => ⟨S131072x512, .f32⟩
  | 47 => ⟨S131072x512, .f32⟩
  | 48 => ⟨S_, .f32⟩
  | 49 => ⟨S131072x512, .f32⟩
  | 50 => ⟨S131072x512, .f32⟩
  | 51 => ⟨S131072x512, .f32⟩
  | 52 => ⟨S_, .f32⟩
  | 53 => ⟨S131072x512, .f32⟩
  | 54 => ⟨S131072x512, .f32⟩
  | 55 => ⟨S131072x512, .f32⟩
  | 56 => ⟨S131072x512, .f32⟩
  | 57 => ⟨S131072x768, .f32⟩
  | 58 => ⟨S1x768, .f32⟩
  | 59 => ⟨S131072x768, .f32⟩
  | 60 => ⟨S131072x768, .f32⟩
  | 61 => ⟨S32x128x32x768, .f32⟩
  | 62 => ⟨S_, .f32⟩
  | 63 => ⟨S32x128x768, .f32⟩
  | _ => ⟨S32x8192x3, .f32⟩

abbrev hbmTy (i : Nat) : BufTy := match i / 128 with
  | 0 => hbmTy0_0 i
  | 1 => hbmTy0_1 i
  | _ => ⟨S32x8192x3, .f32⟩

abbrev bufTy : (tb : Table) → Fin (tcTables nBuf tb) → BufTy
  | .hbm, ⟨i, _⟩ => hbmTy i
  | _, _ => ⟨S32x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_c_3 : Ref sig .tc := ⟨.hbm, 30, rfl⟩
abbrev main_c_4 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev main_v12_4 : Ref sig .tc := ⟨.hbm, 36, rfl⟩
abbrev main_v12_5 : Ref sig .tc := ⟨.hbm, 37, rfl⟩
abbrev main_v12_6 : Ref sig .tc := ⟨.hbm, 38, rfl⟩
abbrev main_while0c_c_19 : Ref sig .tc := ⟨.hbm, 39, rfl⟩
abbrev main_while0c_v70 : Ref sig .tc := ⟨.hbm, 40, rfl⟩
abbrev main_while0b_c_19 : Ref sig .tc := ⟨.hbm, 41, rfl⟩
abbrev main_while0b_v70 : Ref sig .tc := ⟨.hbm, 42, rfl⟩
abbrev main_while0b_c_20 : Ref sig .tc := ⟨.hbm, 43, rfl⟩
abbrev main_while0b_v71 : Ref sig .tc := ⟨.hbm, 44, rfl⟩
abbrev main_while0b_c_21 : Ref sig .tc := ⟨.hbm, 45, rfl⟩
abbrev main_while0b_v72 : Ref sig .tc := ⟨.hbm, 46, rfl⟩
abbrev main_while0b_v73 : Ref sig .tc := ⟨.hbm, 47, rfl⟩
abbrev main_while0b_v74 : Ref sig .tc := ⟨.hbm, 48, rfl⟩
abbrev main_while0b_v75 : Ref sig .tc := ⟨.hbm, 49, rfl⟩
abbrev main_while0b_v76 : Ref sig .tc := ⟨.hbm, 50, rfl⟩
abbrev main_while0b_c_22 : Ref sig .tc := ⟨.hbm, 51, rfl⟩
abbrev main_while0b_v77 : Ref sig .tc := ⟨.hbm, 52, rfl⟩
abbrev main_while0b_v78 : Ref sig .tc := ⟨.hbm, 53, rfl⟩
abbrev main_while0b_c_23 : Ref sig .tc := ⟨.hbm, 54, rfl⟩
abbrev main_while0b_v79 : Ref sig .tc := ⟨.hbm, 55, rfl⟩
abbrev main_while0b_v80 : Ref sig .tc := ⟨.hbm, 56, rfl⟩
abbrev main_while0b_v81 : Ref sig .tc := ⟨.hbm, 57, rfl⟩
abbrev main_while0b_c_24 : Ref sig .tc := ⟨.hbm, 58, rfl⟩
abbrev main_while0b_v82 : Ref sig .tc := ⟨.hbm, 59, rfl⟩
abbrev main_while0b_v83 : Ref sig .tc := ⟨.hbm, 60, rfl⟩
abbrev main_while0b_c_25 : Ref sig .tc := ⟨.hbm, 61, rfl⟩
abbrev main_while0b_v84 : Ref sig .tc := ⟨.hbm, 62, rfl⟩
abbrev main_while0b_v85 : Ref sig .tc := ⟨.hbm, 63, rfl⟩
abbrev main_while0b_v86 : Ref sig .tc := ⟨.hbm, 64, rfl⟩
abbrev main_while0b_v87 : Ref sig .tc := ⟨.hbm, 65, rfl⟩
abbrev main_while0b_v88 : Ref sig .tc := ⟨.hbm, 66, rfl⟩
abbrev main_while0b_v89 : Ref sig .tc := ⟨.hbm, 67, rfl⟩
abbrev main_while0b_v90 : Ref sig .tc := ⟨.hbm, 68, rfl⟩
abbrev main_while0b_v91 : Ref sig .tc := ⟨.hbm, 69, rfl⟩
abbrev main_while0b_v92 : Ref sig .tc := ⟨.hbm, 70, rfl⟩
abbrev main_while0b_v93 : Ref sig .tc := ⟨.hbm, 71, rfl⟩
abbrev main_while0b_v94 : Ref sig .tc := ⟨.hbm, 72, rfl⟩
abbrev main_while0b_cst_26 : Ref sig .tc := ⟨.hbm, 73, rfl⟩
abbrev main_while0b_v95 : Ref sig .tc := ⟨.hbm, 74, rfl⟩
abbrev main_while0b_v96 : Ref sig .tc := ⟨.hbm, 75, rfl⟩
abbrev main_while0b_call1_v0 : Ref sig .tc := ⟨.hbm, 76, rfl⟩
abbrev main_while0b_call1_cst : Ref sig .tc := ⟨.hbm, 77, rfl⟩
abbrev main_while0b_call1_c : Ref sig .tc := ⟨.hbm, 78, rfl⟩
abbrev main_while0b_call1_v1_0 : Ref sig .tc := ⟨.hbm, 79, rfl⟩
abbrev main_while0b_v97 : Ref sig .tc := ⟨.hbm, 80, rfl⟩
abbrev main_while0b_c_27 : Ref sig .tc := ⟨.hbm, 81, rfl⟩
abbrev main_while0b_v98 : Ref sig .tc := ⟨.hbm, 82, rfl⟩
abbrev main_v13 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_c_3 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_cst : Ref sig .tc := ⟨.hbm, 103, rfl⟩
abbrev main_call2_v14 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩
abbrev main_cst_5 : Ref sig .tc := ⟨.hbm, 112, rfl⟩
abbrev main_v21 : Ref sig .tc := ⟨.hbm, 113, rfl⟩
abbrev main_v22 : Ref sig .tc := ⟨.hbm, 114, rfl⟩
abbrev main_values : Ref sig .tc := ⟨.hbm, 115, rfl⟩
abbrev main_indices : Ref sig .tc := ⟨.hbm, 116, rfl⟩
abbrev main_v23 : Ref sig .tc := ⟨.hbm, 117, rfl⟩
abbrev main_v24 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_c_1 : Ref sig .tc := ⟨.hbm, 126, rfl⟩
abbrev main_call3_c_2 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_c_3 : Ref sig .tc := ⟨.hbm, 134, rfl⟩
abbrev main_call3_v11 : Ref sig .tc := ⟨.hbm, 135, rfl⟩
abbrev main_call3_v12 : Ref sig .tc := ⟨.hbm, 136, rfl⟩
abbrev main_call3_v13 : Ref sig .tc := ⟨.hbm, 137, rfl⟩
abbrev main_call3_cst : Ref sig .tc := ⟨.hbm, 138, rfl⟩
abbrev main_call3_v14 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_cst_6 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_cst_7 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_cst_8 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_cst_9 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_cst_10 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_cst_11 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_cst_12 : Ref sig .tc := ⟨.hbm, 190, rfl⟩
abbrev main_v69 : Ref sig .tc := ⟨.hbm, 191, rfl⟩

abbrev nD : Nat := 1
abbrev τ : Topo := Topo.v7x

variable {F : FTy → Type} [FloatOps F]

abbrev main_while0_count : Scf.Loop 32 := ⟨0#32, 128#32, 1#32⟩
-- ==== Proof.RefOps.lean ====
/-
  The reference's host operations as lists: the stretch before its counted loop (`preA … preC`), one round of the loop
  (`bodyA … bodyC`), the stretch after it (`postA … postF`), and `main` as the chain of them.
-/
module

public import proofs.«01_k».proof.ReferenceIdeal
public import proofs.«01_k».proof.Proof.Gen.ReferenceIdeal
public import Idealize.ShloMosaic.Lib.Claim
public import Idealize.ShloMosaic.Lib.StableHlo.RunLoop
public import Idealize.ShloMosaic.Lib.Scf.ExitTest
public import Idealize.ShloMosaic.Lib.Scf.Counter
public import Idealize.ShloMosaic.Lib.Quiescent

@[expose] public section

set_option maxRecDepth 16384

noncomputable section

namespace Cert.Proof.Ref

open Cert.ReferenceIdeal Cert.ReferenceIdeal.Facts₀ Cert.ReferenceIdeal.Facts
open Idealize.ShloMosaic Idealize.SL.Sem

variable {F : FTy → Type} [FloatOps F]

/-- The mean point, and every point's squared distance to it. -/
abbrev preA : List (HloOp τ sig (Elt F)) :=
  [ StableHlo.nullary main_cst (constant S_ .f32 0x00000000#32),
    StableHlo.binary main_arg0 main_cst main_v0 ((fun x v => Host.reduceAdd x v reducesTo_S32x8192x3_S32x3_d1 h_S_) : (⟨S32x8192x3, .f32⟩ : BufTy).Contents (Elt F) → (⟨S_, .f32⟩ : BufTy).Contents (Elt F) → (⟨S32x3, .f32⟩ : BufTy).Contents (Elt F)),
    StableHlo.unary main_v0 main_v1 (broadcastInDim S32x1x3 ![0, 2] bcast_S32x3_S32x1x3_0_2 : (⟨S32x3, .f32⟩ : BufTy).Contents (Elt F) → (⟨S32x1x3, .f32⟩ : BufTy).Contents (Elt F)),
    StableHlo.nullary main_cst_0 (constant S_ .f32 0x46000000#32),
    StableHlo.unary main_cst_0 main_v2 (broadcastInDim S32x1x3 ![] bcast_S_S32x1x3 : (⟨S_, .f32⟩ : BufTy).Contents (Elt F) → (⟨S32x1x3, .f32⟩ : BufTy).Contents (Elt F)),
    StableHlo.binary main_v1 main_v2 main_v3 (Host.divf : (⟨S32x1x3, .f32⟩ : BufTy).Contents (Elt F) → (⟨S32x1x3, .f32⟩ : BufTy).Contents (Elt F) → (⟨S32x1x3, .f32⟩ : BufTy).Contents (Elt F)),
    StableHlo.unary main_v3 main_v4 (broadcastInDim S32x8192x3 ![0, 1, 2] bcast_S32x1x3_S32x8192x3_0_1_2 : (⟨S32x1x3, .f32⟩ : BufTy).Contents (Elt F) → (⟨S32x8192x3, .f32⟩ : BufTy).Contents (Elt F)),
    StableHlo.binary main_arg0 main_v4 main_v5 (subf : (⟨S32x8192x3, .f32⟩ : BufTy).Contents (Elt F) → (⟨S32x8192x3, .f32⟩ : BufTy).Contents (Elt F) → (⟨S32x8192x3, .f32⟩ : BufTy).Contents (Elt F)),
    StableHlo.binary main_v5 main_v5 main_v6 (mulf : (⟨S32x8192x3, .f32⟩ : BufTy).Contents (Elt F) → (⟨S32x8192x3, .f32⟩ : BufTy).Contents (Elt F) → (⟨S32x8192x3, .f32⟩ : BufTy).Contents (Elt F)),
    StableHlo.nullary main_cst_1 (constant S_ .f32 0x00000000#32),
    StableHlo.binary main_v6 main_cst_1 main_v7 ((fun x v => Host.reduceAdd x v reducesTo_S32x8192x3_S32x8192_d2 h_S_) : (⟨S32x8192x3, .f32⟩ : BufTy).Contents (Elt F) → (⟨S_, .f32⟩ : BufTy).Contents (Elt F) → (⟨S32x8192, .f32⟩ : BufTy).Contents (Elt F)) ]

theorem preA_sub : (preA : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub ..⟩

/-- The argmax of those distances: the first centre. -/
abbrev preB : List (HloOp τ sig (Elt F)) :=
  [ StableHlo.TRef.nullary (.of main_call0_v0 : StableHlo.TRef sig ⟨S32x8192, .i32⟩) (iotaInDim S32x8192 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v7 : StableHlo.TRef sig ⟨S32x8192, .f32⟩) (.of main_call0_v0 : StableHlo.TRef sig ⟨S32x8192, .i32⟩) (.of main_call0_cst : StableHlo.TRef sig ⟨S_, .f32⟩) (.of main_call0_c : StableHlo.TRef sig ⟨S_, .i32⟩) (.of main_call0_v1_0 : StableHlo.TRef sig ⟨S32, .f32⟩) (fun x y u v j => (Host.argReduce reducer_argmax_f32_i32 x y u v reducesTo_S32x8192_S32_d1 h_S_ j).1),
    StableHlo.TRef.quaternary (.of main_v7 : StableHlo.TRef sig ⟨S32x8192, .f32⟩) (.of main_call0_v0 : StableHlo.TRef sig ⟨S32x8192, .i32⟩) (.of main_call0_cst : StableHlo.TRef sig ⟨S_, .f32⟩) (.of main_call0_c : StableHlo.TRef sig ⟨S_, .i32⟩) (.of main_v8 : StableHlo.TRef sig ⟨S32, .i32⟩) (fun x y u v j => (Host.argReduce reducer_argmax_f32_i32 x y u v reducesTo_S32x8192_S32_d1 h_S_ j).2) ]

theorem preB_sub : (preB : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The constants, and the loop's carried values copied into their buffers. -/
abbrev preC : List (HloOp τ sig (Elt F)) :=
  [ StableHlo.nullary main_cst_2 (constant S_ .f32 0x501502F9#32),
    StableHlo.unary main_cst_2 main_v9 (broadcastInDim S32x8192 ![] bcast_S_S32x8192 : (⟨S_, .f32⟩ : BufTy).Contents (Elt F) → (⟨S32x8192, .f32⟩ : BufTy).Contents (Elt F)),
    StableHlo.nullary main_v10 (iotaInDim S32 32 0),
    StableHlo.nullary main_c (constantI S_ 32 0#32),
    StableHlo.unary main_c main_v11 (broadcastInDim S32x128 ![] bcast_S_S32x128 : (⟨S_, .i32⟩ : BufTy).Contents (Elt F) → (⟨S32x128, .i32⟩ : BufTy).Contents (Elt F)),
    StableHlo.nullary main_c_3 (constantI S_ 32 0#32),
    StableHlo.nullary main_c_4 (constantI S_ 32 0#32),
    StableHlo.unary main_v10 main_v12_0 id,
    StableHlo.unary main_arg0 main_v12_1 id,
    StableHlo.unary main_c_4 main_v12_2 id,
    StableHlo.unary main_c_3 main_v12_3 id,
    StableHlo.unary main_v9 main_v12_4 id,
    StableHlo.unary main_v8 main_v12_5 id,
    StableHlo.unary main_v11 main_v12_6 id ]

theorem preC_sub : (preC : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- One round up to the new distances: the index normalised, the chosen centre recorded, its point read, the minimum taken. -/
abbrev bodyA : List (HloOp τ sig (Elt F)) :=
  [ StableHlo.nullary main_while0b_c_19 (constantI S_ 32 1#32),
    StableHlo.binary main_v12_3 main_while0b_c_19 main_while0b_v70 (addi : (⟨S_, .i32⟩ : BufTy).Contents (Elt F) → (⟨S_, .i32⟩ : BufTy).Contents (Elt F) → (⟨S_, .i32⟩ : BufTy).Contents (Elt F)),
    StableHlo.nullary main_while0b_c_20 (constantI S_ 32 0#32),
    StableHlo.binary main_v12_3 main_while0b_c_20 main_while0b_v71 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 128#32),
    StableHlo.binary main_v12_3 main_while0b_c_21 main_while0b_v72 (addi : (⟨S_, .i32⟩ : BufTy).Contents (Elt F) → (⟨S_, .i32⟩ : BufTy).Contents (Elt F) → (⟨S_, .i32⟩ : BufTy).Contents (Elt F)),
    StableHlo.ternary main_while0b_v71 main_while0b_v72 main_v12_3 main_while0b_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v73 main_while0b_v74 (id : (⟨S_, .i32⟩ : BufTy).Contents (Elt F) → (⟨S_, .i32⟩ : BufTy).Contents (Elt F)),
    StableHlo.unary main_while0b_v74 main_while0b_v75 (broadcastInDim S1 ![] bcast_S_S1 : (⟨S_, .i32⟩ : BufTy).Contents (Elt F) → (⟨S1, .i32⟩ : BufTy).Contents (Elt F)),
    StableHlo.ternary main_v12_6 main_while0b_v75 main_v12_5 main_while0b_v76 ((fun x i u => Host.scatter scatter_S32x128_S1_S32_0_1_1_0 (fun _ b => b) x i u) : (⟨S32x128, .i32⟩ : BufTy).Contents (Elt F) → (⟨S1, .i32⟩ : BufTy).Contents (Elt F) → (⟨S32, .i32⟩ : BufTy).Contents (Elt F) → (⟨S32x128, .i32⟩ : BufTy).Contents (Elt F)),
    StableHlo.nullary main_while0b_c_22 (constantI S_ 32 0#32),
    StableHlo.unary main_while0b_c_22 main_while0b_v77 (broadcastInDim S32 ![] bcast_S_S32 : (⟨S_, .i32⟩ : BufTy).Contents (Elt F) → (⟨S32, .i32⟩ : BufTy).Contents (Elt F)),
    StableHlo.binary main_v12_0 main_while0b_v77 main_while0b_v78 (cmpi .slt : (⟨S32, .i32⟩ : BufTy).Contents (Elt F) → (⟨S32, .i32⟩ : BufTy).Contents (Elt F) → (⟨S32, .i1⟩ : BufTy).Contents (Elt F)),
    StableHlo.nullary main_while0b_c_23 (constantI S_ 32 32#32),
    StableHlo.unary main_while0b_c_23 main_while0b_v79 (broadcastInDim S32 ![] bcast_S_S32 : (⟨S_, .i32⟩ : BufTy).Contents (Elt F) → (⟨S32, .i32⟩ : BufTy).Contents (Elt F)),
    StableHlo.binary main_v12_0 main_while0b_v79 main_while0b_v80 (addi : (⟨S32, .i32⟩ : BufTy).Contents (Elt F) → (⟨S32, .i32⟩ : BufTy).Contents (Elt F) → (⟨S32, .i32⟩ : BufTy).Contents (Elt F)),
    StableHlo.ternary main_while0b_v78 main_while0b_v80 main_v12_0 main_while0b_v81 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_while0b_c_24 (constantI S_ 32 0#32),
    StableHlo.unary main_while0b_c_24 main_while0b_v82 (broadcastInDim S32 ![] bcast_S_S32 : (⟨S_, .i32⟩ : BufTy).Contents (Elt F) → (⟨S32, .i32⟩ : BufTy).Contents (Elt F)),
    StableHlo.binary main_v12_5 main_while0b_v82 main_while0b_v83 (cmpi .slt : (⟨S32, .i32⟩ : BufTy).Contents (Elt F) → (⟨S32, .i32⟩ : BufTy).Contents (Elt F) → (⟨S32, .i1⟩ : BufTy).Contents (Elt F)),
    StableHlo.nullary main_while0b_c_25 (constantI S_ 32 8192#32),
    StableHlo.unary main_while0b_c_25 main_while0b_v84 (broadcastInDim S32 ![] bcast_S_S32 : (⟨S_, .i32⟩ : BufTy).Contents (Elt F) → (⟨S32, .i32⟩ : BufTy).Contents (Elt F)),
    StableHlo.binary main_v12_5 main_while0b_v84 main_while0b_v85 (addi : (⟨S32, .i32⟩ : BufTy).Contents (Elt F) → (⟨S32, .i32⟩ : BufTy).Contents (Elt F) → (⟨S32, .i32⟩ : BufTy).Contents (Elt F)),
    StableHlo.ternary main_while0b_v83 main_while0b_v85 main_v12_5 main_while0b_v86 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_while0b_v81 main_while0b_v87 (broadcastInDim S32x1 ![0] bcast_S32_S32x1_0 : (⟨S32, .i32⟩ : BufTy).Contents (Elt F) → (⟨S32x1, .i32⟩ : BufTy).Contents (Elt F)),
    StableHlo.unary main_while0b_v86 main_while0b_v88 (broadcastInDim S32x1 ![0] bcast_S32_S32x1_0 : (⟨S32, .i32⟩ : BufTy).Contents (Elt F) → (⟨S32x1, .i32⟩ : BufTy).Contents (Elt F)),
    StableHlo.binary main_while0b_v87 main_while0b_v88 main_while0b_v89 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.binary main_v12_1 main_while0b_v89 main_while0b_v90 ((fun x i => Host.gather gather_S32x8192x3_S32x2_S32x3_1_01_n_n_01_1_113 x i) : (⟨S32x8192x3, .f32⟩ : BufTy).Contents (Elt F) → (⟨S32x2, .i32⟩ : BufTy).Contents (Elt F) → (⟨S32x3, .f32⟩ : BufTy).Contents (Elt F)),
    StableHlo.unary main_while0b_v90 main_while0b_v91 (broadcastInDim S32x1x3 ![0, 2] bcast_S32x3_S32x1x3_0_2 : (⟨S32x3, .f32⟩ : BufTy).Contents (Elt F) → (⟨S32x1x3, .f32⟩ : BufTy).Contents (Elt F)),
    StableHlo.unary main_while0b_v91 main_while0b_v92 (broadcastInDim S32x8192x3 ![0, 1, 2] bcast_S32x1x3_S32x8192x3_0_1_2 : (⟨S32x1x3, .f32⟩ : BufTy).Contents (Elt F) → (⟨S32x8192x3, .f32⟩ : BufTy).Contents (Elt F)),
    StableHlo.binary main_v12_1 main_while0b_v92 main_while0b_v93 (subf : (⟨S32x8192x3, .f32⟩ : BufTy).Contents (Elt F) → (⟨S32x8192x3, .f32⟩ : BufTy).Contents (Elt F) → (⟨S32x8192x3, .f32⟩ : BufTy).Contents (Elt F)),
    StableHlo.binary main_while0b_v93 main_while0b_v93 main_while0b_v94 (mulf : (⟨S32x8192x3, .f32⟩ : BufTy).Contents (Elt F) → (⟨S32x8192x3, .f32⟩ : BufTy).Contents (Elt F) → (⟨S32x8192x3, .f32⟩ : BufTy).Contents (Elt F)),
    StableHlo.nullary main_while0b_cst_26 (constant S_ .f32 0x00000000#32),
    StableHlo.binary main_while0b_v94 main_while0b_cst_26 main_while0b_v95 ((fun x v => Host.reduceAdd x v reducesTo_S32x8192x3_S32x8192_d2 h_S_) : (⟨S32x8192x3, .f32⟩ : BufTy).Contents (Elt F) → (⟨S_, .f32⟩ : BufTy).Contents (Elt F) → (⟨S32x8192, .f32⟩ : BufTy).Contents (Elt F)),
    StableHlo.binary main_v12_4 main_while0b_v95 main_while0b_v96 (minimumf : (⟨S32x8192, .f32⟩ : BufTy).Contents (Elt F) → (⟨S32x8192, .f32⟩ : BufTy).Contents (Elt F) → (⟨S32x8192, .f32⟩ : BufTy).Contents (Elt F)) ]

theorem bodyA_sub : (bodyA : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub ..⟩

/-- The argmax of the new distances. -/
abbrev bodyB : List (HloOp τ sig (Elt F)) :=
  [ StableHlo.TRef.nullary (.of main_while0b_call1_v0 : StableHlo.TRef sig ⟨S32x8192, .i32⟩) (iotaInDim S32x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v96 : StableHlo.TRef sig ⟨S32x8192, .f32⟩) (.of main_while0b_call1_v0 : StableHlo.TRef sig ⟨S32x8192, .i32⟩) (.of main_while0b_call1_cst : StableHlo.TRef sig ⟨S_, .f32⟩) (.of main_while0b_call1_c : StableHlo.TRef sig ⟨S_, .i32⟩) (.of main_while0b_call1_v1_0 : StableHlo.TRef sig ⟨S32, .f32⟩) (fun x y u v j => (Host.argReduce reducer_argmax_f32_i32 x y u v reducesTo_S32x8192_S32_d1 h_S_ j).1),
    StableHlo.TRef.quaternary (.of main_while0b_v96 : StableHlo.TRef sig ⟨S32x8192, .f32⟩) (.of main_while0b_call1_v0 : StableHlo.TRef sig ⟨S32x8192, .i32⟩) (.of main_while0b_call1_cst : StableHlo.TRef sig ⟨S_, .f32⟩) (.of main_while0b_call1_c : StableHlo.TRef sig ⟨S_, .i32⟩) (.of main_while0b_v97 : StableHlo.TRef sig ⟨S32, .i32⟩) (fun x y u v j => (Host.argReduce reducer_argmax_f32_i32 x y u v reducesTo_S32x8192_S32_d1 h_S_ j).2) ]

theorem bodyB_sub : (bodyB : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The counter advanced and the carried values written back. -/
abbrev bodyC : List (HloOp τ sig (Elt F)) :=
  [ StableHlo.nullary main_while0b_c_27 (constantI S_ 32 1#32),
    StableHlo.binary main_v12_2 main_while0b_c_27 main_while0b_v98 (addi : (⟨S_, .i32⟩ : BufTy).Contents (Elt F) → (⟨S_, .i32⟩ : BufTy).Contents (Elt F) → (⟨S_, .i32⟩ : BufTy).Contents (Elt F)),
    StableHlo.unary main_while0b_v98 main_v12_2 id,
    StableHlo.unary main_while0b_v70 main_v12_3 id,
    StableHlo.unary main_while0b_v96 main_v12_4 id,
    StableHlo.unary main_while0b_v97 main_v12_5 id,
    StableHlo.unary main_while0b_v76 main_v12_6 id ]

theorem bodyC_sub : (bodyC : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-- The chosen indices, as a column of indices. -/
abbrev postA : List (HloOp τ sig (Elt F)) :=
  [ StableHlo.unary main_v12_6 main_v13 (broadcastInDim S32x128x1 ![0, 1] bcast_S32x128_S32x128x1_0_1 : (⟨S32x128, .i32⟩ : BufTy).Contents (Elt F) → (⟨S32x128x1, .i32⟩ : BufTy).Contents (Elt F)) ]

theorem postA_sub : (postA : List (HloOp τ sig (Elt F))).Forall fun op => op.bufs ⊆ StableHlo.tcRefs τ sig :=
  StableHlo.unary_bufs_sub ..

/-- The chosen points, read along the points' axis. -/
abbrev postB : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S32x128x1, .i32⟩) (broadcastInDim S32x128x1 ![] bcast_S_S32x128x1),
    StableHlo.TRef.binary (.of main_v13 : StableHlo.TRef sig ⟨S32x128x1, .i32⟩) (.of main_call2_v0 : StableHlo.TRef sig ⟨S32x128x1, .i32⟩) (.of main_call2_v1 : StableHlo.TRef sig ⟨S32x128x1, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S32x128x1, .i32⟩) (broadcastInDim S32x128x1 ![] bcast_S_S32x128x1),
    StableHlo.TRef.binary (.of main_v13 : StableHlo.TRef sig ⟨S32x128x1, .i32⟩) (.of main_call2_v2 : StableHlo.TRef sig ⟨S32x128x1, .i32⟩) (.of main_call2_v3 : StableHlo.TRef sig ⟨S32x128x1, .i32⟩) addi,
    StableHlo.TRef.ternary (.of main_call2_v1 : StableHlo.TRef sig ⟨S32x128x1, .i1⟩) (.of main_call2_v3 : StableHlo.TRef sig ⟨S32x128x1, .i32⟩) (.of main_v13 : StableHlo.TRef sig ⟨S32x128x1, .i32⟩) (.of main_call2_v4 : StableHlo.TRef sig ⟨S32x128x1, .i32⟩) select,
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S32x128x1, .i32⟩) (broadcastInDim S32x128x1 ![] bcast_S_S32x128x1),
    StableHlo.TRef.binary (.of main_call2_v4 : StableHlo.TRef sig ⟨S32x128x1, .i32⟩) (.of main_call2_v5 : StableHlo.TRef sig ⟨S32x128x1, .i32⟩) (.of main_call2_v6 : StableHlo.TRef sig ⟨S32x128x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S32x128x1, .i32⟩) (broadcastInDim S32x128x1 ![0, 1, 2] bcast_S1x1x1_S32x128x1_0_1_2),
    StableHlo.TRef.binary (.of main_call2_v4 : StableHlo.TRef sig ⟨S32x128x1, .i32⟩) (.of main_call2_v8 : StableHlo.TRef sig ⟨S32x128x1, .i32⟩) (.of main_call2_v9 : StableHlo.TRef sig ⟨S32x128x1, .i1⟩) (cmpi .sle),
    StableHlo.TRef.binary (.of main_call2_v6 : StableHlo.TRef sig ⟨S32x128x1, .i1⟩) (.of main_call2_v9 : StableHlo.TRef sig ⟨S32x128x1, .i1⟩) (.of main_call2_v10 : StableHlo.TRef sig ⟨S32x128x1, .i1⟩) andi,
    StableHlo.TRef.nullary (.of main_call2_c_3 : StableHlo.TRef sig ⟨S_, .i1⟩) (constantI S_ 1 1#1),
    StableHlo.TRef.binary (.of main_call2_v10 : StableHlo.TRef sig ⟨S32x128x1, .i1⟩) (.of main_call2_c_3 : StableHlo.TRef sig ⟨S_, .i1⟩) (.of main_call2_v11 : StableHlo.TRef sig ⟨S32x128, .i1⟩) (fun x v => Host.reduce IntOp.andi x v reducesTo_S32x128x1_S32x128_d2 h_S_),
    StableHlo.TRef.binary (.of main_arg0 : StableHlo.TRef sig ⟨S32x8192x3, .f32⟩) (.of main_call2_v4 : StableHlo.TRef sig ⟨S32x128x1, .i32⟩) (.of main_call2_v12 : StableHlo.TRef sig ⟨S32x128x3, .f32⟩) (fun x i => Host.gather gather_S32x8192x3_S32x128x1_S32x128x3_2_1_0_0_1_2_113 x i),
    StableHlo.TRef.unary (.of main_call2_v11 : StableHlo.TRef sig ⟨S32x128, .i1⟩) (.of main_call2_v13 : StableHlo.TRef sig ⟨S32x128x3, .i1⟩) (broadcastInDim S32x128x3 ![0, 1] bcast_S32x128_S32x128x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S32x128x3, .f32⟩) (broadcastInDim S32x128x3 ![] bcast_S_S32x128x3),
    StableHlo.TRef.ternary (.of main_call2_v13 : StableHlo.TRef sig ⟨S32x128x3, .i1⟩) (.of main_call2_v12 : StableHlo.TRef sig ⟨S32x128x3, .f32⟩) (.of main_call2_v14 : StableHlo.TRef sig ⟨S32x128x3, .f32⟩) (.of main_v14 : StableHlo.TRef sig ⟨S32x128x3, .f32⟩) select ]

theorem postB_sub : (postB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The distances of every point to every centre, negated, and the 32 nearest. -/
abbrev postC : List (HloOp τ sig (Elt F)) :=
  [ StableHlo.unary main_v14 main_v15 (broadcastInDim S32x128x1x3 ![0, 1, 3] bcast_S32x128x3_S32x128x1x3_0_1_3 : (⟨S32x128x3, .f32⟩ : BufTy).Contents (Elt F) → (⟨S32x128x1x3, .f32⟩ : BufTy).Contents (Elt F)),
    StableHlo.unary main_arg0 main_v16 (broadcastInDim S32x1x8192x3 ![0, 2, 3] bcast_S32x8192x3_S32x1x8192x3_0_2_3 : (⟨S32x8192x3, .f32⟩ : BufTy).Contents (Elt F) → (⟨S32x1x8192x3, .f32⟩ : BufTy).Contents (Elt F)),
    StableHlo.unary main_v15 main_v17 (broadcastInDim S32x128x8192x3 ![0, 1, 2, 3] bcast_S32x128x1x3_S32x128x8192x3_0_1_2_3 : (⟨S32x128x1x3, .f32⟩ : BufTy).Contents (Elt F) → (⟨S32x128x8192x3, .f32⟩ : BufTy).Contents (Elt F)),
    StableHlo.unary main_v16 main_v18 (broadcastInDim S32x128x8192x3 ![0, 1, 2, 3] bcast_S32x1x8192x3_S32x128x8192x3_0_1_2_3 : (⟨S32x1x8192x3, .f32⟩ : BufTy).Contents (Elt F) → (⟨S32x128x8192x3, .f32⟩ : BufTy).Contents (Elt F)),
    StableHlo.binary main_v17 main_v18 main_v19 (subf : (⟨S32x128x8192x3, .f32⟩ : BufTy).Contents (Elt F) → (⟨S32x128x8192x3, .f32⟩ : BufTy).Contents (Elt F) → (⟨S32x128x8192x3, .f32⟩ : BufTy).Contents (Elt F)),
    StableHlo.binary main_v19 main_v19 main_v20 (mulf : (⟨S32x128x8192x3, .f32⟩ : BufTy).Contents (Elt F) → (⟨S32x128x8192x3, .f32⟩ : BufTy).Contents (Elt F) → (⟨S32x128x8192x3, .f32⟩ : BufTy).Contents (Elt F)),
    StableHlo.nullary main_cst_5 (constant S_ .f32 0x00000000#32),
    StableHlo.binary main_v20 main_cst_5 main_v21 ((fun x v => Host.reduceAdd x v reducesTo_S32x128x8192x3_S32x128x8192_d3 h_S_) : (⟨S32x128x8192x3, .f32⟩ : BufTy).Contents (Elt F) → (⟨S_, .f32⟩ : BufTy).Contents (Elt F) → (⟨S32x128x8192, .f32⟩ : BufTy).Contents (Elt F)),
    StableHlo.unary main_v21 main_v22 (Host.negf : (⟨S32x128x8192, .f32⟩ : BufTy).Contents (Elt F) → (⟨S32x128x8192, .f32⟩ : BufTy).Contents (Elt F)),
    StableHlo.unary main_v22 main_values ((fun x => (Host.topK S32x128x32 2 (FloatOps.cmpfTotal .gt) x sliceFits_S32x128x8192_S32x128x32).1) : (⟨S32x128x8192, .f32⟩ : BufTy).Contents (Elt F) → (⟨S32x128x32, .f32⟩ : BufTy).Contents (Elt F)),
    StableHlo.unary main_v22 main_indices ((fun x => (Host.topK S32x128x32 2 (FloatOps.cmpfTotal .gt) x sliceFits_S32x128x8192_S32x128x32).2) : (⟨S32x128x8192, .f32⟩ : BufTy).Contents (Elt F) → (⟨S32x128x32, .i32⟩ : BufTy).Contents (Elt F)),
    StableHlo.reshape main_indices main_v23 (rfl : (.i32 : EltTy) = .i32) shapeCasts_S32x128x32_S32x4096,
    StableHlo.unary main_v23 main_v24 (broadcastInDim S32x4096x1 ![0, 1] bcast_S32x4096_S32x4096x1_0_1 : (⟨S32x4096, .i32⟩ : BufTy).Contents (Elt F) → (⟨S32x4096x1, .i32⟩ : BufTy).Contents (Elt F)) ]

theorem postC_sub : (postC : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.reshape_bufs_sub .., StableHlo.unary_bufs_sub ..⟩

/-- The neighbours' points, read along the points' axis. -/
abbrev postD : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S32x4096x1, .i32⟩) (broadcastInDim S32x4096x1 ![] bcast_S_S32x4096x1),
    StableHlo.TRef.binary (.of main_v24 : StableHlo.TRef sig ⟨S32x4096x1, .i32⟩) (.of main_call3_v0 : StableHlo.TRef sig ⟨S32x4096x1, .i32⟩) (.of main_call3_v1 : StableHlo.TRef sig ⟨S32x4096x1, .i1⟩) (cmpi .slt),
    StableHlo.TRef.nullary (.of main_call3_c_0 : StableHlo.TRef sig ⟨S_, .i32⟩) (constantI S_ 32 8192#32),
    StableHlo.TRef.unary (.of main_call3_c_0 : StableHlo.TRef sig ⟨S_, .i32⟩) (.of main_call3_v2 : StableHlo.TRef sig ⟨S32x4096x1, .i32⟩) (broadcastInDim S32x4096x1 ![] bcast_S_S32x4096x1),
    StableHlo.TRef.binary (.of main_v24 : StableHlo.TRef sig ⟨S32x4096x1, .i32⟩) (.of main_call3_v2 : StableHlo.TRef sig ⟨S32x4096x1, .i32⟩) (.of main_call3_v3 : StableHlo.TRef sig ⟨S32x4096x1, .i32⟩) addi,
    StableHlo.TRef.ternary (.of main_call3_v1 : StableHlo.TRef sig ⟨S32x4096x1, .i1⟩) (.of main_call3_v3 : StableHlo.TRef sig ⟨S32x4096x1, .i32⟩) (.of main_v24 : StableHlo.TRef sig ⟨S32x4096x1, .i32⟩) (.of main_call3_v4 : StableHlo.TRef sig ⟨S32x4096x1, .i32⟩) select,
    StableHlo.TRef.nullary (.of main_call3_c_1 : StableHlo.TRef sig ⟨S1, .i32⟩) (constantI S1 32 8191#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S32x4096x1, .i32⟩) (broadcastInDim S32x4096x1 ![] bcast_S_S32x4096x1),
    StableHlo.TRef.binary (.of main_call3_v4 : StableHlo.TRef sig ⟨S32x4096x1, .i32⟩) (.of main_call3_v5 : StableHlo.TRef sig ⟨S32x4096x1, .i32⟩) (.of main_call3_v6 : StableHlo.TRef sig ⟨S32x4096x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S32x4096x1, .i32⟩) (broadcastInDim S32x4096x1 ![0, 1, 2] bcast_S1x1x1_S32x4096x1_0_1_2),
    StableHlo.TRef.binary (.of main_call3_v4 : StableHlo.TRef sig ⟨S32x4096x1, .i32⟩) (.of main_call3_v8 : StableHlo.TRef sig ⟨S32x4096x1, .i32⟩) (.of main_call3_v9 : StableHlo.TRef sig ⟨S32x4096x1, .i1⟩) (cmpi .sle),
    StableHlo.TRef.binary (.of main_call3_v6 : StableHlo.TRef sig ⟨S32x4096x1, .i1⟩) (.of main_call3_v9 : StableHlo.TRef sig ⟨S32x4096x1, .i1⟩) (.of main_call3_v10 : StableHlo.TRef sig ⟨S32x4096x1, .i1⟩) andi,
    StableHlo.TRef.nullary (.of main_call3_c_3 : StableHlo.TRef sig ⟨S_, .i1⟩) (constantI S_ 1 1#1),
    StableHlo.TRef.binary (.of main_call3_v10 : StableHlo.TRef sig ⟨S32x4096x1, .i1⟩) (.of main_call3_c_3 : StableHlo.TRef sig ⟨S_, .i1⟩) (.of main_call3_v11 : StableHlo.TRef sig ⟨S32x4096, .i1⟩) (fun x v => Host.reduce IntOp.andi x v reducesTo_S32x4096x1_S32x4096_d2 h_S_),
    StableHlo.TRef.binary (.of main_arg0 : StableHlo.TRef sig ⟨S32x8192x3, .f32⟩) (.of main_call3_v4 : StableHlo.TRef sig ⟨S32x4096x1, .i32⟩) (.of main_call3_v12 : StableHlo.TRef sig ⟨S32x4096x3, .f32⟩) (fun x i => Host.gather gather_S32x8192x3_S32x4096x1_S32x4096x3_2_1_0_0_1_2_113 x i),
    StableHlo.TRef.unary (.of main_call3_v11 : StableHlo.TRef sig ⟨S32x4096, .i1⟩) (.of main_call3_v13 : StableHlo.TRef sig ⟨S32x4096x3, .i1⟩) (broadcastInDim S32x4096x3 ![0, 1] bcast_S32x4096_S32x4096x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S32x4096x3, .f32⟩) (broadcastInDim S32x4096x3 ![] bcast_S_S32x4096x3),
    StableHlo.TRef.ternary (.of main_call3_v13 : StableHlo.TRef sig ⟨S32x4096x3, .i1⟩) (.of main_call3_v12 : StableHlo.TRef sig ⟨S32x4096x3, .f32⟩) (.of main_call3_v14 : StableHlo.TRef sig ⟨S32x4096x3, .f32⟩) (.of main_v25 : StableHlo.TRef sig ⟨S32x4096x3, .f32⟩) select ]

theorem postD_sub : (postD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The neighbours relative to their centre, the first layer and its gelu up to the complementary error function. -/
abbrev postE : List (HloOp τ sig (Elt F)) :=
  [ StableHlo.reshape main_v25 main_v26 (rfl : (.f32 : EltTy) = .f32) shapeCasts_S32x4096x3_S32x128x32x3,
    StableHlo.unary main_v14 main_v27 (broadcastInDim S32x128x1x3 ![0, 1, 3] bcast_S32x128x3_S32x128x1x3_0_1_3 : (⟨S32x128x3, .f32⟩ : BufTy).Contents (Elt F) → (⟨S32x128x1x3, .f32⟩ : BufTy).Contents (Elt F)),
    StableHlo.unary main_v27 main_v28 (broadcastInDim S32x128x32x3 ![0, 1, 2, 3] bcast_S32x128x1x3_S32x128x32x3_0_1_2_3 : (⟨S32x128x1x3, .f32⟩ : BufTy).Contents (Elt F) → (⟨S32x128x32x3, .f32⟩ : BufTy).Contents (Elt F)),
    StableHlo.binary main_v26 main_v28 main_v29 (subf : (⟨S32x128x32x3, .f32⟩ : BufTy).Contents (Elt F) → (⟨S32x128x32x3, .f32⟩ : BufTy).Contents (Elt F) → (⟨S32x128x32x3, .f32⟩ : BufTy).Contents (Elt F)),
    StableHlo.reshape main_v29 main_v30 (rfl : (.f32 : EltTy) = .f32) shapeCasts_S32x128x32x3_S131072x3,
    StableHlo.binary main_v30 main_arg1 main_v31 ((fun l r => Host.dotGeneral dot_S131072x3_S3x512_S131072x512_1_0_0_1_n_n none l r) : (⟨S131072x3, .f32⟩ : BufTy).Contents (Elt F) → (⟨S3x512, .f32⟩ : BufTy).Contents (Elt F) → (⟨S131072x512, .f32⟩ : BufTy).Contents (Elt F)),
    StableHlo.unary main_arg2 main_v32 (broadcastInDim S1x512 ![1] bcast_S512_S1x512_1 : (⟨S512, .f32⟩ : BufTy).Contents (Elt F) → (⟨S1x512, .f32⟩ : BufTy).Contents (Elt F)),
    StableHlo.unary main_v32 main_v33 (broadcastInDim S131072x512 ![0, 1] bcast_S1x512_S131072x512_0_1 : (⟨S1x512, .f32⟩ : BufTy).Contents (Elt F) → (⟨S131072x512, .f32⟩ : BufTy).Contents (Elt F)),
    StableHlo.binary main_v31 main_v33 main_v34 (addf : (⟨S131072x512, .f32⟩ : BufTy).Contents (Elt F) → (⟨S131072x512, .f32⟩ : BufTy).Contents (Elt F) → (⟨S131072x512, .f32⟩ : BufTy).Contents (Elt F)),
    StableHlo.nullary main_cst_6 (constant S_ .f32 0x3F000000#32),
    StableHlo.unary main_cst_6 main_v35 (broadcastInDim S131072x512 ![] bcast_S_S131072x512 : (⟨S_, .f32⟩ : BufTy).Contents (Elt F) → (⟨S131072x512, .f32⟩ : BufTy).Contents (Elt F)),
    StableHlo.binary main_v35 main_v34 main_v36 (mulf : (⟨S131072x512, .f32⟩ : BufTy).Contents (Elt F) → (⟨S131072x512, .f32⟩ : BufTy).Contents (Elt F) → (⟨S131072x512, .f32⟩ : BufTy).Contents (Elt F)),
    StableHlo.unary main_v34 main_v37 (Host.negf : (⟨S131072x512, .f32⟩ : BufTy).Contents (Elt F) → (⟨S131072x512, .f32⟩ : BufTy).Contents (Elt F)),
    StableHlo.nullary main_cst_7 (constant S_ .f32 0x3F3504F3#32),
    StableHlo.unary main_cst_7 main_v38 (broadcastInDim S131072x512 ![] bcast_S_S131072x512 : (⟨S_, .f32⟩ : BufTy).Contents (Elt F) → (⟨S131072x512, .f32⟩ : BufTy).Contents (Elt F)),
    StableHlo.binary main_v37 main_v38 main_v39 (mulf : (⟨S131072x512, .f32⟩ : BufTy).Contents (Elt F) → (⟨S131072x512, .f32⟩ : BufTy).Contents (Elt F) → (⟨S131072x512, .f32⟩ : BufTy).Contents (Elt F)),
    StableHlo.unary main_v39 main_v40 (Host.erfc : (⟨S131072x512, .f32⟩ : BufTy).Contents (Elt F) → (⟨S131072x512, .f32⟩ : BufTy).Contents (Elt F)) ]

theorem postE_sub : (postE : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩

/-- The other layers and the maximum over each group. -/
abbrev postF : List (HloOp τ sig (Elt F)) :=
  [ StableHlo.binary main_v36 main_v40 main_v41 (mulf : (⟨S131072x512, .f32⟩ : BufTy).Contents (Elt F) → (⟨S131072x512, .f32⟩ : BufTy).Contents (Elt F) → (⟨S131072x512, .f32⟩ : BufTy).Contents (Elt F)),
    StableHlo.binary main_v41 main_arg3 main_v42 ((fun l r => Host.dotGeneral dot_S131072x512_S512x512_S131072x512_1_0_0_1_n_n none l r) : (⟨S131072x512, .f32⟩ : BufTy).Contents (Elt F) → (⟨S512x512, .f32⟩ : BufTy).Contents (Elt F) → (⟨S131072x512, .f32⟩ : BufTy).Contents (Elt F)),
    StableHlo.unary main_arg4 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S131072x512 ![0, 1] bcast_S1x512_S131072x512_0_1 : (⟨S1x512, .f32⟩ : BufTy).Contents (Elt F) → (⟨S131072x512, .f32⟩ : BufTy).Contents (Elt F)),
    StableHlo.binary main_v42 main_v44 main_v45 (addf : (⟨S131072x512, .f32⟩ : BufTy).Contents (Elt F) → (⟨S131072x512, .f32⟩ : BufTy).Contents (Elt F) → (⟨S131072x512, .f32⟩ : BufTy).Contents (Elt F)),
    StableHlo.nullary main_cst_8 (constant S_ .f32 0x3F000000#32),
    StableHlo.unary main_cst_8 main_v46 (broadcastInDim S131072x512 ![] bcast_S_S131072x512 : (⟨S_, .f32⟩ : BufTy).Contents (Elt F) → (⟨S131072x512, .f32⟩ : BufTy).Contents (Elt F)),
    StableHlo.binary main_v46 main_v45 main_v47 (mulf : (⟨S131072x512, .f32⟩ : BufTy).Contents (Elt F) → (⟨S131072x512, .f32⟩ : BufTy).Contents (Elt F) → (⟨S131072x512, .f32⟩ : BufTy).Contents (Elt F)),
    StableHlo.unary main_v45 main_v48 (Host.negf : (⟨S131072x512, .f32⟩ : BufTy).Contents (Elt F) → (⟨S131072x512, .f32⟩ : BufTy).Contents (Elt F)),
    StableHlo.nullary main_cst_9 (constant S_ .f32 0x3F3504F3#32),
    StableHlo.unary main_cst_9 main_v49 (broadcastInDim S131072x512 ![] bcast_S_S131072x512 : (⟨S_, .f32⟩ : BufTy).Contents (Elt F) → (⟨S131072x512, .f32⟩ : BufTy).Contents (Elt F)),
    StableHlo.binary main_v48 main_v49 main_v50 (mulf : (⟨S131072x512, .f32⟩ : BufTy).Contents (Elt F) → (⟨S131072x512, .f32⟩ : BufTy).Contents (Elt F) → (⟨S131072x512, .f32⟩ : BufTy).Contents (Elt F)),
    StableHlo.unary main_v50 main_v51 (Host.erfc : (⟨S131072x512, .f32⟩ : BufTy).Contents (Elt F) → (⟨S131072x512, .f32⟩ : BufTy).Contents (Elt F)),
    StableHlo.binary main_v47 main_v51 main_v52 (mulf : (⟨S131072x512, .f32⟩ : BufTy).Contents (Elt F) → (⟨S131072x512, .f32⟩ : BufTy).Contents (Elt F) → (⟨S131072x512, .f32⟩ : BufTy).Contents (Elt F)),
    StableHlo.binary main_v52 main_arg5 main_v53 ((fun l r => Host.dotGeneral dot_S131072x512_S512x512_S131072x512_1_0_0_1_n_n none l r) : (⟨S131072x512, .f32⟩ : BufTy).Contents (Elt F) → (⟨S512x512, .f32⟩ : BufTy).Contents (Elt F) → (⟨S131072x512, .f32⟩ : BufTy).Contents (Elt F)),
    StableHlo.unary main_arg6 main_v54 (broadcastInDim S1x512 ![1] bcast_S512_S1x512_1 : (⟨S512, .f32⟩ : BufTy).Contents (Elt F) → (⟨S1x512, .f32⟩ : BufTy).Contents (Elt F)),
    StableHlo.unary main_v54 main_v55 (broadcastInDim S131072x512 ![0, 1] bcast_S1x512_S131072x512_0_1 : (⟨S1x512, .f32⟩ : BufTy).Contents (Elt F) → (⟨S131072x512, .f32⟩ : BufTy).Contents (Elt F)),
    StableHlo.binary main_v53 main_v55 main_v56 (addf : (⟨S131072x512, .f32⟩ : BufTy).Contents (Elt F) → (⟨S131072x512, .f32⟩ : BufTy).Contents (Elt F) → (⟨S131072x512, .f32⟩ : BufTy).Contents (Elt F)),
    StableHlo.nullary main_cst_10 (constant S_ .f32 0x3F000000#32),
    StableHlo.unary main_cst_10 main_v57 (broadcastInDim S131072x512 ![] bcast_S_S131072x512 : (⟨S_, .f32⟩ : BufTy).Contents (Elt F) → (⟨S131072x512, .f32⟩ : BufTy).Contents (Elt F)),
    StableHlo.binary main_v57 main_v56 main_v58 (mulf : (⟨S131072x512, .f32⟩ : BufTy).Contents (Elt F) → (⟨S131072x512, .f32⟩ : BufTy).Contents (Elt F) → (⟨S131072x512, .f32⟩ : BufTy).Contents (Elt F)),
    StableHlo.unary main_v56 main_v59 (Host.negf : (⟨S131072x512, .f32⟩ : BufTy).Contents (Elt F) → (⟨S131072x512, .f32⟩ : BufTy).Contents (Elt F)),
    StableHlo.nullary main_cst_11 (constant S_ .f32 0x3F3504F3#32),
    StableHlo.unary main_cst_11 main_v60 (broadcastInDim S131072x512 ![] bcast_S_S131072x512 : (⟨S_, .f32⟩ : BufTy).Contents (Elt F) → (⟨S131072x512, .f32⟩ : BufTy).Contents (Elt F)),
    StableHlo.binary main_v59 main_v60 main_v61 (mulf : (⟨S131072x512, .f32⟩ : BufTy).Contents (Elt F) → (⟨S131072x512, .f32⟩ : BufTy).Contents (Elt F) → (⟨S131072x512, .f32⟩ : BufTy).Contents (Elt F)),
    StableHlo.unary main_v61 main_v62 (Host.erfc : (⟨S131072x512, .f32⟩ : BufTy).Contents (Elt F) → (⟨S131072x512, .f32⟩ : BufTy).Contents (Elt F)),
    StableHlo.binary main_v58 main_v62 main_v63 (mulf : (⟨S131072x512, .f32⟩ : BufTy).Contents (Elt F) → (⟨S131072x512, .f32⟩ : BufTy).Contents (Elt F) → (⟨S131072x512, .f32⟩ : BufTy).Contents (Elt F)),
    StableHlo.binary main_v63 main_arg7 main_v64 ((fun l r => Host.dotGeneral dot_S131072x512_S512x768_S131072x768_1_0_0_1_n_n none l r) : (⟨S131072x512, .f32⟩ : BufTy).Contents (Elt F) → (⟨S512x768, .f32⟩ : BufTy).Contents (Elt F) → (⟨S131072x768, .f32⟩ : BufTy).Contents (Elt F)),
    StableHlo.unary main_arg8 main_v65 (broadcastInDim S1x768 ![1] bcast_S768_S1x768_1 : (⟨S768, .f32⟩ : BufTy).Contents (Elt F) → (⟨S1x768, .f32⟩ : BufTy).Contents (Elt F)),
    StableHlo.unary main_v65 main_v66 (broadcastInDim S131072x768 ![0, 1] bcast_S1x768_S131072x768_0_1 : (⟨S1x768, .f32⟩ : BufTy).Contents (Elt F) → (⟨S131072x768, .f32⟩ : BufTy).Contents (Elt F)),
    StableHlo.binary main_v64 main_v66 main_v67 (addf : (⟨S131072x768, .f32⟩ : BufTy).Contents (Elt F) → (⟨S131072x768, .f32⟩ : BufTy).Contents (Elt F) → (⟨S131072x768, .f32⟩ : BufTy).Contents (Elt F)),
    StableHlo.reshape main_v67 main_v68 (rfl : (.f32 : EltTy) = .f32) shapeCasts_S131072x768_S32x128x32x768,
    StableHlo.nullary main_cst_12 (constant S_ .f32 0xFF800000#32),
    StableHlo.binary main_v68 main_cst_12 main_v69 ((fun x v => Host.reduce FloatOps.maximumf x v reducesTo_S32x128x32x768_S32x128x768_d2 h_S_) : (⟨S32x128x32x768, .f32⟩ : BufTy).Contents (Elt F) → (⟨S_, .f32⟩ : BufTy).Contents (Elt F) → (⟨S32x128x768, .f32⟩ : BufTy).Contents (Elt F)) ]

theorem postF_sub : (postF : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.nullary_bufs_sub .., StableHlo.binary_bufs_sub ..⟩

/-- The stretches before the loop, -/
abbrev preI : List (List (HloOp τ sig (Elt F))) := [preA, preB, preC]
/-- one round of it, -/
abbrev bodyI : List (List (HloOp τ sig (Elt F))) := [bodyA, bodyB, bodyC]
/-- and the stretches after it. -/
abbrev postI : List (List (HloOp τ sig (Elt F))) := [postA, postB, postC, postD, postE, postF]

theorem preI_plain : StableHlo.Plain (preI (F := F)) := .cons preA_sub (.cons preB_sub (.cons preC_sub .nil))
theorem bodyI_plain : StableHlo.Plain (bodyI (F := F)) := .cons bodyA_sub (.cons bodyB_sub (.cons bodyC_sub .nil))
theorem postI_plain : StableHlo.Plain (postI (F := F)) :=
  .cons postA_sub (.cons postB_sub (.cons postC_sub (.cons postD_sub (.cons postE_sub (.cons postF_sub .nil)))))

/-- The first window of `main`: the stretches before the loop, the loop, and the stretches after it up to the window's end. -/
theorem part0_chain (c : Dev nD) : main_part0 (F := F) c = (Pipeline.chainK
  [ StableHlo.seq preA, StableHlo.seq preB, StableHlo.seq preC, HostLoop.enter 0,
    StableHlo.seq postA, StableHlo.seq postB, StableHlo.seq postC, StableHlo.seq postD ]
  (StableHlo.seq postE) : Prog (TpuEff nD τ sig (Elt F) (HostLoop.Sig (Pipeline.Sig Λ₀ (Fin 0) fun p => (pcfgs (F := F) p).Adm) 1) .tc) PUnit) := by
  rewrite [StableHlo.chainK_seq_cons, StableHlo.chainK_seq_cons, StableHlo.chainK_seq_cons, Pipeline.chainK_cons,
    StableHlo.chainK_seq_cons, StableHlo.chainK_seq_cons, StableHlo.chainK_seq_cons, StableHlo.chainK_seq_cons]
  chain_rfl

/-- The last window. -/
theorem part1_chain (c : Dev nD) : main_part1 (F := F) c = (Pipeline.chain [ StableHlo.seq postF ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- `main` is the stretches before the loop, the loop, and the stretches after it. -/
theorem main_chain (c : Dev nD) : main (F := F) c = (Pipeline.chain
  ((preI.map fun ops => (StableHlo.seq ops : Prog (TpuEff nD τ sig (Elt F) (HostLoop.Sig (Pipeline.Sig Λ₀ (Fin 0) fun p => (pcfgs (F := F) p).Adm) 1) .tc) PUnit)) ++ HostLoop.enter 0 :: postI.map fun ops => (StableHlo.seq ops : Prog (TpuEff nD τ sig (Elt F) (HostLoop.Sig (Pipeline.Sig Λ₀ (Fin 0) fun p => (pcfgs (F := F) p).Adm) 1) .tc) PUnit))) := by
  show (main_part0 (F := F) c >>= fun _ => main_part1 (F := F) c) = _
  rewrite [part1_chain, part0_chain, Pipeline.chainK_bind_chain]
  chain_rfl

/-- One round of the loop is its stretches. -/
theorem body_chain : main_while0_body (F := F) = Pipeline.chain (bodyI.map fun ops => (StableHlo.seq ops : Prog (TpuEff nD τ sig (Elt F) (HostLoop.Sig (Pipeline.Sig Λ₀ (Fin 0) fun p => (pcfgs (F := F) p).Adm) 1) .tc) PUnit)) := by
  show _ = Pipeline.chain [StableHlo.seq bodyA, StableHlo.seq bodyB, StableHlo.seq bodyC]
  rewrite [StableHlo.chain_seq_cons, StableHlo.chain_seq_cons, StableHlo.chain_seq_cons]
  chain_rfl

end Cert.Proof.Ref
-- ==== Proof.RefRun.lean ====
/-
  The reference's run: its counted loop makes 128 rounds, so `main` runs to `finalContents` of its stretches; the argument
  arrays end unchanged and no semaphore exists to count.
-/
module

public import proofs.«01_k».proof.Proof.RefOps
public import Idealize.ShloMosaic.Lib.StableHlo.ReadAt

@[expose] public section

set_option maxRecDepth 16384

noncomputable section

namespace Cert.Proof.Ref

open Cert.ReferenceIdeal Cert.ReferenceIdeal.Facts₀ Cert.ReferenceIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL atTrip finalContents entryContents)

variable {F : FTy → Type} [FloatOps F]

/-- The condition's two operations: the bound, and the counter compared with it. -/
abbrev condOps : List (HloOp τ sig (Elt F)) :=
  [ StableHlo.nullary main_while0c_c_19 (constantI S_ 32 128#32),
    StableHlo.binary main_v12_2 main_while0c_c_19 main_while0c_v70 (cmpi .slt) ]

/-- The buffers at the loop's entry. -/
abbrev atEntry (m : (ℓ : Loc nD τ sig) → Buf (Elt F) ℓ) : Dev nD → Valuation τ sig (Elt F) := entryContents preI m

/-- The buffers before round `k`. -/
abbrev atRound (m : (ℓ : Loc nD τ sig) → Buf (Elt F) ℓ) : ℕ → Dev nD → Valuation τ sig (Elt F) :=
  atTrip condOps bodyI (atEntry m)

/-- The counter is `k` before round `k`. -/
theorem ctr (m : (ℓ : Loc nD τ sig) → Buf (Elt F) ℓ) (c : Dev nD) :
    ∀ k, atRound m k c main_v12_2 = fun _ => (Scf.iv 0#32 1#32 k : BitVec 32)
  | 0 => by
    show after preC (after preB (after preA (StableHlo.launchContents m c))) (Proc.devRef .tc main_v12_2) = _
    after_reads_simp
    rfl
  | k + 1 => by
    show after bodyC (after bodyB (after bodyA (after condOps (atRound m k c)))) (Proc.devRef .tc main_v12_2) = _
    have h := ctr m c k
    generalize atRound m k c = V at h ⊢
    after_reads_simp
    rw [h, Scf.iv_succ]
    rfl

/-- The loop makes 128 rounds. -/
theorem trips : Scf.trips 0#32 128#32 1#32 = 128 := by decide

/-- The condition reads `1` exactly while the round is below 128, and changes nothing but its own buffers. -/
theorem cond_spec (m : (ℓ : Loc nD τ sig) → Buf (Elt F) ℓ) :
    StableHlo.CondSpec (pcfgs (F := F)) defs₀ loops main_while0_cond condOps bodyI (atEntry m) 128 := by
  intro k hk c bd
  have hctr := ctr m c k
  simp only [main_while0_cond, bind_pure]
  rw [wp_bind]
  iintro ⟨Hb, Hh⟩
  iapply (StableHlo.wp_hlo_within (Variants.lift Variants.none) (c : Thread nD τ) bd Set.univ
    (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ
    (Pipeline.sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atRound m k c) main_v12_2 HostLoop.idx0)
        (HloOp.result _ (atRound m k c) main_while0c_c_19 HostLoop.idx0) = 1#1) (k < 128)
    rw [StableHlo.nullary_result_ne _ _ _ _ (by decide), StableHlo.nullary_result, hctr]
    have h := Scf.cmpi_slt_iv_ub_iff (lb := 0#32) (ub := 128#32) (st := 1#32) main_while0_ok (k := k)
      (by rw [trips]; exact hk)
    rw [trips] at h
    exact h
  isplitl [Hb]; · iexact Hb
  rw [StableHlo.after_cons, StableHlo.after_cons, StableHlo.after_nil]; iexact Hh

/-- Every buffer of the program after `main`. -/
abbrev final (m : (ℓ : Loc nD τ sig) → Buf (Elt F) ℓ) : Dev nD → Valuation τ sig (Elt F) :=
  finalContents condOps preI bodyI postI 128 m

/-- Every execution of `main` ends with every buffer of the program at `final`. -/
theorem run [∀ e, Nonempty (Elt F e)] (m : (ℓ : Loc nD τ sig) → Buf (Elt F) ℓ) (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  StableHlo.run_loop pcfgs defs₀ loops main 0 main_while0_cond main_while0_body rfl preI bodyI postI condOps
    preI_plain bodyI_plain postI_plain main_chain body_chain 128 m ρ (cond_spec m)

/-- Nine facts on the nine argument arrays. -/
abbrev Args (P : Ref sig .tc → Prop) : Prop :=
  P main_arg0 ∧ P main_arg1 ∧ P main_arg2 ∧ P main_arg3 ∧ P main_arg4 ∧ P main_arg5 ∧ P main_arg6 ∧ P main_arg7 ∧ P main_arg8

/-- The stretch before the loop changes no argument array. -/
theorem pre_args (V : Valuation τ sig (Elt F)) :
    Args fun b => afterL preI V (Proc.devRef .tc b) = V (Proc.devRef .tc b) := by
  simp only [Args, StableHlo.afterL_cons, StableHlo.afterL_nil]
  after_reads_simp
  simp only [and_self]

/-- A round changes no argument array. -/
theorem round_args (V : Valuation τ sig (Elt F)) :
    Args fun b => afterL bodyI (after condOps V) (Proc.devRef .tc b) = V (Proc.devRef .tc b) := by
  simp only [Args, StableHlo.afterL_cons, StableHlo.afterL_nil]
  after_reads_simp
  simp only [and_self]

/-- The stretch after the loop changes no argument array. -/
theorem post_args (V : Valuation τ sig (Elt F)) :
    Args fun b => afterL postI (after condOps V) (Proc.devRef .tc b) = V (Proc.devRef .tc b) := by
  simp only [Args, StableHlo.afterL_cons, StableHlo.afterL_nil]
  after_reads_simp
  simp only [and_self]

variable (m : (ℓ : Loc nD τ sig) → Buf (Elt F) ℓ) (c : Dev nD)

/-- Before every round the argument arrays are as at the launch. -/
theorem atRound_args : ∀ k, Args fun b => atRound m k c (Proc.devRef .tc b) = StableHlo.launchContents m c (Proc.devRef .tc b)
  | 0 => pre_args (StableHlo.launchContents m c)
  | k + 1 => by
    have h := atRound_args k
    have g := round_args (atRound m k c)
    obtain ⟨h0, h1, h2, h3, h4, h5, h6, h7, h8⟩ := h
    obtain ⟨g0, g1, g2, g3, g4, g5, g6, g7, g8⟩ := g
    exact ⟨g0.trans h0, g1.trans h1, g2.trans h2, g3.trans h3, g4.trans h4, g5.trans h5, g6.trans h6, g7.trans h7,
      g8.trans h8⟩

/-- After `main` the argument arrays are as at the launch. -/
theorem final_args : Args fun b => final m c (Proc.devRef .tc b) = StableHlo.launchContents m c (Proc.devRef .tc b) := by
  have h := atRound_args m c 128
  have g := post_args (atRound m 128 c)
  obtain ⟨h0, h1, h2, h3, h4, h5, h6, h7, h8⟩ := h
  obtain ⟨g0, g1, g2, g3, g4, g5, g6, g7, g8⟩ := g
  exact ⟨g0.trans h0, g1.trans h1, g2.trans h2, g3.trans h3, g4.trans h4, g5.trans h5, g6.trans h6, g7.trans h7,
    g8.trans h8⟩

/-- The reference's frame: every execution ends, the argument arrays unchanged and every counter zero. -/
theorem frame [∀ e, Nonempty (Elt F e)] (ρ : Dev nD → PrngReg) :
    θ_run defs (onTc (τ := τ) (main (F := F))) ⟨m, fun _ => 0, ρ⟩
      (fun r => (∀ c : Dev nD, Args fun b => r.2.mem ((c.tc : Thread nD τ).loc b) = m ((c.tc : Thread nD τ).loc b))
        ∧ r.2.sem = fun _ => 0) := by
  refine Idealize.ShloMosaic.θ_run_mono (run m ρ) fun r hr => ?_
  refine ⟨fun c => ?_, sem_eq_zero_of_no_sems rfl r.2⟩
  obtain ⟨h0, h1, h2, h3, h4, h5, h6, h7, h8⟩ := final_args m c
  exact ⟨(hr c main_arg0 rfl).trans h0, (hr c main_arg1 rfl).trans h1, (hr c main_arg2 rfl).trans h2,
    (hr c main_arg3 rfl).trans h3, (hr c main_arg4 rfl).trans h4, (hr c main_arg5 rfl).trans h5,
    (hr c main_arg6 rfl).trans h6, (hr c main_arg7 rfl).trans h7, (hr c main_arg8 rfl).trans h8⟩

end Cert.Proof.Ref
-- ==== Proof.Stages.lean ====
/-
  The reference's arithmetic in named stages: the sampling's start and round, the centres read out of the points, the
  neighbours' indices and points, the layers. The kernel's host operations after its region are the same stages.
-/
module

public import proofs.«01_k».proof.Proof.RefOps
public import Idealize.ShloMosaic.Lib.StableHlo.ReadAt

@[expose] public section

set_option maxRecDepth 16384

noncomputable section

namespace Cert.Proof.Ref

open Cert.ReferenceIdeal Cert.ReferenceIdeal.Facts₀ Cert.ReferenceIdeal.Facts
open Idealize.ShloMosaic Idealize.SL.Sem

variable {F : FTy → Type} [FloatOps F]

/-! ## The sampling -/

/-- The points' mean, over each batch. -/
def mean (X : FVec F S32x8192x3 .f32) : FVec F S32x1x3 .f32 :=
  Host.divf (broadcastInDim S32x1x3 ![0, 2] bcast_S32x3_S32x1x3_0_2
      (Host.reduceAdd X (constant S_ .f32 0x00000000#32) reducesTo_S32x8192x3_S32x3_d1 h_S_))
    (broadcastInDim S32x1x3 ![] bcast_S_S32x1x3 (constant S_ .f32 0x46000000#32))

/-- Every point's squared distance to one point per batch. -/
def distTo (X : FVec F S32x8192x3 .f32) (p : FVec F S32x1x3 .f32) : FVec F S32x8192 .f32 :=
  Host.reduceAdd
    (mulf (subf X (broadcastInDim S32x8192x3 ![0, 1, 2] bcast_S32x1x3_S32x8192x3_0_1_2 p))
      (subf X (broadcastInDim S32x8192x3 ![0, 1, 2] bcast_S32x1x3_S32x8192x3_0_1_2 p)))
    (constant S_ .f32 0x00000000#32) reducesTo_S32x8192x3_S32x8192_d2 h_S_

/-- The first place of each batch's greatest distance. -/
def argmax (d : FVec F S32x8192 .f32) : IVec S32 32 := fun j =>
  (Host.argReduce reducer_argmax_f32_i32 d (iotaInDim S32x8192 32 1) (constant S_ .f32 0xFF800000#32) (constantI S_ 32 0#32)
    reducesTo_S32x8192_S32_d1 h_S_ j).2

/-- The distances before the first round. -/
def far : FVec F S32x8192 .f32 := broadcastInDim S32x8192 ![] bcast_S_S32x8192 (constant S_ .f32 0x501502F9#32)

/-- A word per batch, the word plus `n` where it is negative. -/
def wrap (n : BitVec 32) (f : IVec S32 32) : IVec S32 32 :=
  select (cmpi .slt f (broadcastInDim S32 ![] bcast_S_S32 (constantI S_ 32 0#32)))
    (addi f (broadcastInDim S32 ![] bcast_S_S32 (constantI S_ 32 n))) f

/-- The point of each batch at a word. -/
def pointAt (X : FVec F S32x8192x3 .f32) (b f : IVec S32 32) : FVec F S32x3 .f32 :=
  Host.gather gather_S32x8192x3_S32x2_S32x3_1_01_n_n_01_1_113 X
    (concatenate S32x2 1 [⟨S32x1, broadcastInDim S32x1 ![0] bcast_S32_S32x1_0 (wrap 32#32 b)⟩,
      ⟨S32x1, broadcastInDim S32x1 ![0] bcast_S32_S32x1_0 (wrap 8192#32 f)⟩] concatenates_S32x1_S32x1_S32x2_d1)

/-- The distances after a round that chose the words `f`. -/
def closer (X : FVec F S32x8192x3 .f32) (b f : IVec S32 32) (d : FVec F S32x8192 .f32) : FVec F S32x8192 .f32 :=
  minimumf d (distTo X (broadcastInDim S32x1x3 ![0, 2] bcast_S32x3_S32x1x3_0_2 (pointAt X b f)))

/-- The chosen words with those of round `i` recorded. -/
def record (i : IVec S_ 32) (f : IVec S32 32) (cs : IVec S32x128 32) : IVec S32x128 32 :=
  Host.scatter scatter_S32x128_S1_S32_0_1_1_0 (fun _ b => b) cs
    (broadcastInDim S1 ![] bcast_S_S1
      (select (cmpi .slt i (constantI S_ 32 0#32)) (addi i (constantI S_ 32 128#32)) i)) f

/-! ## Points read at words -/

/-- A block of words, each word plus 8192 where it is negative (128 words per batch). -/
def wrapC (w : IVec S32x128x1 32) : IVec S32x128x1 32 :=
  select (cmpi .slt w (broadcastInDim S32x128x1 ![] bcast_S_S32x128x1 (constantI S_ 32 0#32)))
    (addi w (broadcastInDim S32x128x1 ![] bcast_S_S32x128x1 (constantI S_ 32 8192#32))) w

/-- Which words are places of a batch (128 words per batch). -/
def inC (w : IVec S32x128x1 32) : IVec S32x128 1 :=
  Host.reduce IntOp.andi
    (andi (cmpi .sge w (broadcastInDim S32x128x1 ![] bcast_S_S32x128x1 (constantI S_ 32 0#32)))
      (cmpi .sle w (broadcastInDim S32x128x1 ![0, 1, 2] bcast_S1x1x1_S32x128x1_0_1_2
        (broadcastInDim S1x1x1 ![2] bcast_S1_S1x1x1_2 (constantI S1 32 8191#32)))))
    (constantI S_ 1 1#1) reducesTo_S32x128x1_S32x128_d2 h_S_

/-- The points at 128 words per batch. -/
def takeC (X : FVec F S32x8192x3 .f32) (w : IVec S32x128x1 32) : FVec F S32x128x3 .f32 :=
  select (broadcastInDim S32x128x3 ![0, 1] bcast_S32x128_S32x128x3_0_1 (inC (wrapC w)))
    (Host.gather gather_S32x8192x3_S32x128x1_S32x128x3_2_1_0_0_1_2_113 X (wrapC w))
    (broadcastInDim S32x128x3 ![] bcast_S_S32x128x3 (constant S_ .f32 0x7FC00000#32))

/-- The points at the chosen words. -/
def centers (X : FVec F S32x8192x3 .f32) (cs : IVec S32x128 32) : FVec F S32x128x3 .f32 :=
  takeC X (broadcastInDim S32x128x1 ![0, 1] bcast_S32x128_S32x128x1_0_1 cs)

/-- A block of words, each word plus 8192 where it is negative (4096 words per batch). -/
def wrapG (w : IVec S32x4096x1 32) : IVec S32x4096x1 32 :=
  select (cmpi .slt w (broadcastInDim S32x4096x1 ![] bcast_S_S32x4096x1 (constantI S_ 32 0#32)))
    (addi w (broadcastInDim S32x4096x1 ![] bcast_S_S32x4096x1 (constantI S_ 32 8192#32))) w

/-- Which words are places of a batch (4096 words per batch). -/
def inG (w : IVec S32x4096x1 32) : IVec S32x4096 1 :=
  Host.reduce IntOp.andi
    (andi (cmpi .sge w (broadcastInDim S32x4096x1 ![] bcast_S_S32x4096x1 (constantI S_ 32 0#32)))
      (cmpi .sle w (broadcastInDim S32x4096x1 ![0, 1, 2] bcast_S1x1x1_S32x4096x1_0_1_2
        (broadcastInDim S1x1x1 ![2] bcast_S1_S1x1x1_2 (constantI S1 32 8191#32)))))
    (constantI S_ 1 1#1) reducesTo_S32x4096x1_S32x4096_d2 h_S_

/-- The points at 4096 words per batch. -/
def takeG (X : FVec F S32x8192x3 .f32) (w : IVec S32x4096x1 32) : FVec F S32x4096x3 .f32 :=
  select (broadcastInDim S32x4096x3 ![0, 1] bcast_S32x4096_S32x4096x3_0_1 (inG (wrapG w)))
    (Host.gather gather_S32x8192x3_S32x4096x1_S32x4096x3_2_1_0_0_1_2_113 X (wrapG w))
    (broadcastInDim S32x4096x3 ![] bcast_S_S32x4096x3 (constant S_ .f32 0x7FC00000#32))

/-! ## The neighbours -/

/-- The differences of every centre and every point, by coordinate. -/
def diffs (X : FVec F S32x8192x3 .f32) (C : FVec F S32x128x3 .f32) : FVec F S32x128x8192x3 .f32 :=
  subf
    (broadcastInDim S32x128x8192x3 ![0, 1, 2, 3] bcast_S32x128x1x3_S32x128x8192x3_0_1_2_3
      (broadcastInDim S32x128x1x3 ![0, 1, 3] bcast_S32x128x3_S32x128x1x3_0_1_3 C))
    (broadcastInDim S32x128x8192x3 ![0, 1, 2, 3] bcast_S32x1x8192x3_S32x128x8192x3_0_1_2_3
      (broadcastInDim S32x1x8192x3 ![0, 2, 3] bcast_S32x8192x3_S32x1x8192x3_0_2_3 X))

/-- The words of each centre's 32 nearest points. -/
def nearest (X : FVec F S32x8192x3 .f32) (C : FVec F S32x128x3 .f32) : IVec S32x128x32 32 :=
  (Host.topK S32x128x32 2 (FloatOps.cmpfTotal .gt)
    (Host.negf (Host.reduceAdd (mulf (diffs X C) (diffs X C)) (constant S_ .f32 0x00000000#32)
      reducesTo_S32x128x8192x3_S32x128x8192_d3 h_S_)) sliceFits_S32x128x8192_S32x128x32).2

/-- Those words in one row per batch. -/
def rowOf (w : IVec S32x128x32 32) : IVec S32x4096x1 32 :=
  broadcastInDim S32x4096x1 ![0, 1] bcast_S32x4096_S32x4096x1_0_1 (shapeCast S32x4096 w shapeCasts_S32x128x32_S32x4096)

/-- The neighbours relative to their centre. -/
def rel (P : FVec F S32x4096x3 .f32) (C : FVec F S32x128x3 .f32) : FVec F S131072x3 .f32 :=
  shapeCast S131072x3
    (subf (shapeCast S32x128x32x3 P shapeCasts_S32x4096x3_S32x128x32x3)
      (broadcastInDim S32x128x32x3 ![0, 1, 2, 3] bcast_S32x128x1x3_S32x128x32x3_0_1_2_3
        (broadcastInDim S32x128x1x3 ![0, 1, 3] bcast_S32x128x3_S32x128x1x3_0_1_3 C)))
    shapeCasts_S32x128x32x3_S131072x3

/-! ## The layers -/

/-- A bias on every row. -/
def bias (b : FVec F S512 .f32) : FVec F S131072x512 .f32 :=
  broadcastInDim S131072x512 ![0, 1] bcast_S1x512_S131072x512_0_1 (broadcastInDim S1x512 ![1] bcast_S512_S1x512_1 b)

/-- The first layer before its gelu. -/
def layer1 (h : FVec F S131072x3 .f32) (W : FVec F S3x512 .f32) (b : FVec F S512 .f32) : FVec F S131072x512 .f32 :=
  addf (Host.dotGeneral dot_S131072x3_S3x512_S131072x512_1_0_0_1_n_n none h W) (bias b)

/-- A middle layer before its gelu. -/
def layer (h : FVec F S131072x512 .f32) (W : FVec F S512x512 .f32) (b : FVec F S512 .f32) : FVec F S131072x512 .f32 :=
  addf (Host.dotGeneral dot_S131072x512_S512x512_S131072x512_1_0_0_1_n_n none h W) (bias b)

/-- Half of a value, gelu's first factor. -/
def half (a : FVec F S131072x512 .f32) : FVec F S131072x512 .f32 :=
  mulf (broadcastInDim S131072x512 ![] bcast_S_S131072x512 (constant S_ .f32 0x3F000000#32)) a

/-- The complementary error function of minus a value by the square root of two, gelu's second factor. -/
def tailOf (a : FVec F S131072x512 .f32) : FVec F S131072x512 .f32 :=
  Host.erfc (mulf (Host.negf a) (broadcastInDim S131072x512 ![] bcast_S_S131072x512 (constant S_ .f32 0x3F3504F3#32)))

/-- The gelu. -/
def gelu (a : FVec F S131072x512 .f32) : FVec F S131072x512 .f32 := mulf (half a) (tailOf a)

/-- The last layer and the maximum over each group. -/
def pooled (h : FVec F S131072x512 .f32) (W : FVec F S512x768 .f32) (b : FVec F S768 .f32) : FVec F S32x128x768 .f32 :=
  Host.reduce FloatOps.maximumf
    (shapeCast S32x128x32x768
      (addf (Host.dotGeneral dot_S131072x512_S512x768_S131072x768_1_0_0_1_n_n none h W)
        (broadcastInDim S131072x768 ![0, 1] bcast_S1x768_S131072x768_0_1 (broadcastInDim S1x768 ![1] bcast_S768_S1x768_1 b)))
      shapeCasts_S131072x768_S32x128x32x768)
    (constant S_ .f32 0xFF800000#32) reducesTo_S32x128x32x768_S32x128x768_d2 h_S_

/-- The tokens from the neighbours' relative points. -/
def tokens (h : FVec F S131072x3 .f32) (W1 : FVec F S3x512 .f32) (b1 : FVec F S512 .f32) (W2 : FVec F S512x512 .f32)
    (b2 : FVec F S512 .f32) (W3 : FVec F S512x512 .f32) (b3 : FVec F S512 .f32) (W4 : FVec F S512x768 .f32)
    (b4 : FVec F S768 .f32) : FVec F S32x128x768 .f32 :=
  pooled (gelu (layer (gelu (layer (gelu (layer1 h W1 b1)) W2 b2)) W3 b3)) W4 b4

end Cert.Proof.Ref
-- ==== Proof.KernelTail.lean ====
/-
  The kernel's host operations after its region, as the reference's stages of the centres.
-/
module

public import proofs.«01_k».proof.Proof.Stages
public import proofs.«01_k».proof.Proof.Gen.KernelIdeal.Frame
public import Idealize.ShloMosaic.Lib.Pipeline.ValueKit

@[expose] public section

set_option maxRecDepth 16384

noncomputable section

namespace Cert.Proof.Ker

open Cert.KernelIdeal Cert.KernelIdeal.Facts₀ Cert.KernelIdeal.Facts
open Cert.KernelIdeal.Gen (hostOps1 hostOps1_1 hostOps1_2)
open Idealize.ShloMosaic Idealize.ShloMosaic.TcCoe Idealize.SL.Sem
open Idealize.ShloMosaic.StableHlo (after)

variable {F : FTy → Type} [FloatOps F]

/-- Three blocks of coordinates side by side: the centres. -/
def stack (x y z : FVec F S32x128 .f32) : FVec F S32x128x3 .f32 :=
  concatenate S32x128x3 2
    [⟨S32x128x1, broadcastInDim S32x128x1 ![0, 1] bcast_S32x128_S32x128x1_0_1 x⟩,
      ⟨S32x128x1, broadcastInDim S32x128x1 ![0, 1] bcast_S32x128_S32x128x1_0_1 y⟩,
      ⟨S32x128x1, broadcastInDim S32x128x1 ![0, 1] bcast_S32x128_S32x128x1_0_1 z⟩]
    concatenates_S32x128x1_S32x128x1_S32x128x1_S32x128x3_d2

section Stretches

variable (V : Valuation τ sig (Elt F))

/-- The centres and the neighbours' words. -/
theorem tail1_read : after hostOps1 V main_v10 = stack (F := F) (V main_v6_1) (V main_v6_2) (V main_v6_3)
    ∧ after hostOps1 V main_indices = Ref.nearest (F := F) (V main_arg0) (stack (F := F) (V main_v6_1) (V main_v6_2) (V main_v6_3))
    ∧ after hostOps1 V main_v20
      = Ref.rowOf (Ref.nearest (F := F) (V main_arg0) (stack (F := F) (V main_v6_1) (V main_v6_2) (V main_v6_3))) := by
  after_reads_simp
  exact ⟨rfl, rfl, rfl⟩

/-- The neighbours' points. -/
theorem tail2_read : after hostOps1_1 V main_v21 = Ref.takeG (F := F) (V main_arg0) (V main_v20) := by
  after_reads_simp
  try simp -implicitDefEqProofs only [StableHlo.TRef.toBuf, StableHlo.TRef.ofBuf, cast_cast, cast_eq]
  rfl

/-- The layers. -/
theorem tail3_read : after hostOps1_2 V main_v65
    = Ref.tokens (F := F) (Ref.rel (V main_v21) (V main_v10)) (V main_arg1) (V main_arg2) (V main_arg3) (V main_arg4)
        (V main_arg5) (V main_arg6) (V main_arg7) (V main_arg8) := by
  after_reads_simp
  rfl

/-- Nine facts on the nine argument arrays. -/
abbrev Args (P : Ref sig .tc → Prop) : Prop :=
  P main_arg0 ∧ P main_arg1 ∧ P main_arg2 ∧ P main_arg3 ∧ P main_arg4 ∧ P main_arg5 ∧ P main_arg6 ∧ P main_arg7 ∧ P main_arg8

theorem tail1_kept : Args fun b => after hostOps1 V (Proc.devRef .tc b) = V (Proc.devRef .tc b) := by
  simp only [Args]
  after_reads_simp
  simp only [and_self]

theorem tail2_kept : (Args fun b => after hostOps1_1 V (Proc.devRef .tc b) = V (Proc.devRef .tc b))
    ∧ after hostOps1_1 V main_v10 = V main_v10 ∧ after hostOps1_1 V main_indices = V main_indices := by
  simp only [Args]
  after_reads_simp
  simp only [and_self]

theorem tail3_kept : after hostOps1_2 V main_v10 = V main_v10 ∧ after hostOps1_2 V main_indices = V main_indices := by
  after_reads_simp
  simp only [and_self]

end Stretches

end Cert.Proof.Ker
-- ==== Proof.RefRead.lean ====
/-
  What the reference's stretches leave in the buffers read later, as the stages.
-/
module

public import proofs.«01_k».proof.Proof.RefRun
public import proofs.«01_k».proof.Proof.Stages

@[expose] public section

set_option maxRecDepth 16384

noncomputable section

namespace Cert.Proof.Ref

open Cert.ReferenceIdeal Cert.ReferenceIdeal.Facts₀ Cert.ReferenceIdeal.Facts
open Idealize.ShloMosaic Idealize.ShloMosaic.TcCoe Idealize.SL.Sem
open Idealize.ShloMosaic.StableHlo (after afterL)

variable {F : FTy → Type} [FloatOps F]

section Stretches

variable (V : Valuation τ sig (Elt F))

/-- The loop's carried buffers at its entry. -/
theorem pre_read :
    afterL preI V main_v12_0 = (iotaInDim S32 32 0 : IVec S32 32) ∧ afterL preI V main_v12_1 = V main_arg0
    ∧ afterL preI V main_v12_3 = (constantI S_ 32 0#32 : IVec S_ 32)
    ∧ afterL preI V main_v12_4 = far (F := F)
    ∧ afterL preI V main_v12_5 = argmax (F := F) (distTo (V main_arg0) (mean (V main_arg0)))
    ∧ afterL preI V main_v12_6 = (fun _ => 0#32 : IVec S32x128 32) := by
  simp only [StableHlo.afterL_cons, StableHlo.afterL_nil]
  after_reads_simp
  try simp -implicitDefEqProofs only [StableHlo.TRef.toBuf, StableHlo.TRef.ofBuf, cast_cast, cast_eq]
  exact ⟨rfl, rfl, rfl, rfl, rfl, rfl⟩

/-- The carried buffers a round leaves as they are. -/
theorem round_kept :
    afterL bodyI (after condOps V) main_v12_0 = V main_v12_0 ∧ afterL bodyI (after condOps V) main_v12_1 = V main_v12_1 := by
  simp only [StableHlo.afterL_cons, StableHlo.afterL_nil]
  after_reads_simp
  exact ⟨trivial, trivial⟩

/-- The round's number after a round. -/
theorem round_index :
    afterL bodyI (after condOps V) main_v12_3 = (addi (V main_v12_3) (constantI S_ 32 1#32) : IVec S_ 32) := by
  simp only [StableHlo.afterL_cons, StableHlo.afterL_nil]
  after_reads_simp
  rfl

/-- The distances after a round. -/
theorem round_dist :
    afterL bodyI (after condOps V) main_v12_4
        = closer (F := F) (V main_v12_1) (V main_v12_0) (V main_v12_5) (V main_v12_4) := by
  simp only [StableHlo.afterL_cons, StableHlo.afterL_nil]
  after_reads_simp
  rfl

/-- The next choice after a round. -/
theorem round_choice :
    afterL bodyI (after condOps V) main_v12_5
        = argmax (F := F) (closer (F := F) (V main_v12_1) (V main_v12_0) (V main_v12_5) (V main_v12_4)) := by
  simp only [StableHlo.afterL_cons, StableHlo.afterL_nil]
  after_reads_simp
  rfl

/-- The choices recorded after a round. -/
theorem round_record :
    afterL bodyI (after condOps V) main_v12_6 = record (V main_v12_3) (V main_v12_5) (V main_v12_6) := by
  simp only [StableHlo.afterL_cons, StableHlo.afterL_nil]
  after_reads_simp
  simp only [id_eq, record]

/-- The centres. -/
theorem postB_read : after postB (after postA (after condOps V)) main_v14 = centers (F := F) (V main_arg0) (V main_v12_6) := by
  after_reads_simp
  try simp -implicitDefEqProofs only [StableHlo.TRef.toBuf, StableHlo.TRef.ofBuf, cast_cast, cast_eq]
  rfl

/-- The neighbours' words. -/
theorem postC_read : after postC V main_indices = nearest (F := F) (V main_arg0) (V main_v14)
    ∧ after postC V main_v24 = rowOf (nearest (F := F) (V main_arg0) (V main_v14)) := by
  after_reads_simp
  try simp -implicitDefEqProofs only [StableHlo.TRef.toBuf, StableHlo.TRef.ofBuf, cast_cast, cast_eq]
  exact ⟨rfl, rfl⟩

/-- The neighbours' points. -/
theorem postD_read : after postD V main_v25 = takeG (F := F) (V main_arg0) (V main_v24) := by
  after_reads_simp
  try simp -implicitDefEqProofs only [StableHlo.TRef.toBuf, StableHlo.TRef.ofBuf, cast_cast, cast_eq]
  rfl

/-- The first layer, its gelu's two factors. -/
theorem postE_read :
    after postE V main_v36 = half (F := F) (layer1 (rel (V main_v25) (V main_v14)) (V main_arg1) (V main_arg2))
    ∧ after postE V main_v40 = tailOf (F := F) (layer1 (rel (V main_v25) (V main_v14)) (V main_arg1) (V main_arg2)) := by
  after_reads_simp
  try simp -implicitDefEqProofs only [StableHlo.TRef.toBuf, StableHlo.TRef.ofBuf, cast_cast, cast_eq]
  exact ⟨rfl, rfl⟩

/-- The other layers. -/
theorem postF_read : after postF V main_v69
    = pooled (F := F) (gelu (layer (gelu (layer (mulf (V main_v36 : FVec F S131072x512 .f32) (V main_v40)) (V main_arg3) (V main_arg4)))
        (V main_arg5) (V main_arg6))) (V main_arg7) (V main_arg8) := by
  after_reads_simp
  try simp -implicitDefEqProofs only [StableHlo.TRef.toBuf, StableHlo.TRef.ofBuf, cast_cast, cast_eq]
  rfl

/-- The stretch that reads the centres changes no argument array. -/
theorem postB_kept : Args fun b => after postB (after postA (after condOps V)) (Proc.devRef .tc b) = V (Proc.devRef .tc b) := by
  simp only [Args]
  after_reads_simp
  simp only [and_self]

/-- The search for the neighbours changes no argument array and not the centres. -/
theorem postC_kept : (Args fun b => after postC V (Proc.devRef .tc b) = V (Proc.devRef .tc b))
    ∧ after postC V main_v14 = V main_v14 := by
  simp only [Args]
  after_reads_simp
  simp only [and_self]

/-- The neighbours' points are read with the arguments, the centres and the words left alone. -/
theorem postD_kept : (Args fun b => after postD V (Proc.devRef .tc b) = V (Proc.devRef .tc b))
    ∧ after postD V main_v14 = V main_v14 ∧ after postD V main_indices = V main_indices := by
  simp only [Args]
  after_reads_simp
  simp only [and_self]

/-- So is the first layer. -/
theorem postE_kept : (Args fun b => after postE V (Proc.devRef .tc b) = V (Proc.devRef .tc b))
    ∧ after postE V main_v14 = V main_v14 ∧ after postE V main_indices = V main_indices := by
  simp only [Args]
  after_reads_simp
  simp only [and_self]

/-- And the others. -/
theorem postF_kept : after postF V main_v14 = V main_v14 ∧ after postF V main_indices = V main_indices := by
  after_reads_simp
  simp only [and_self]

end Stretches

/-- The sampling's state before round `k`: the distances, the choice, the choices recorded. -/
def state (X : FVec F S32x8192x3 .f32) : ℕ → FVec F S32x8192 .f32 × IVec S32 32 × IVec S32x128 32
  | 0 => (far, argmax (distTo X (mean X)), fun _ => 0#32)
  | k + 1 =>
    let s := state X k
    let d := closer X (iotaInDim S32 32 0) s.2.1 s.1
    (d, argmax d, record (fun _ => Scf.iv 0#32 1#32 k) s.2.1 s.2.2)

theorem state_zero (X : FVec F S32x8192x3 .f32) : state X 0 = (far, argmax (distTo X (mean X)), fun _ => 0#32) := by
  rw [state]

theorem state_succ (X : FVec F S32x8192x3 .f32) (k : ℕ) :
    state X (k + 1) = (closer X (iotaInDim S32 32 0) (state X k).2.1 (state X k).1,
      argmax (closer X (iotaInDim S32 32 0) (state X k).2.1 (state X k).1),
      record (fun _ => Scf.iv 0#32 1#32 k) (state X k).2.1 (state X k).2.2) := by
  rw [state]

variable (m : (ℓ : Loc nD τ sig) → Buf (Elt F) ℓ) (c : Dev nD)

/-- The carried buffers before round `k`. -/
theorem atRound_read : ∀ k,
    atRound m k c main_v12_0 = (iotaInDim S32 32 0 : IVec S32 32)
    ∧ atRound m k c main_v12_1 = StableHlo.launchContents m c main_arg0
    ∧ atRound m k c main_v12_3 = (fun _ => Scf.iv 0#32 1#32 k : IVec S_ 32)
    ∧ atRound m k c main_v12_4 = (state (F := F) (StableHlo.launchContents m c main_arg0) k).1
    ∧ atRound m k c main_v12_5 = (state (F := F) (StableHlo.launchContents m c main_arg0) k).2.1
    ∧ atRound m k c main_v12_6 = (state (F := F) (StableHlo.launchContents m c main_arg0) k).2.2
  | 0 => by
    obtain ⟨h0, h1, h3, h4, h5, h6⟩ := pre_read (StableHlo.launchContents m c)
    rw [state_zero]
    dsimp only
    refine ⟨h0, h1, h3.trans ?_, h4, h5, h6⟩
    rw [Scf.iv_zero]
    rfl
  | k + 1 => by
    obtain ⟨h0, h1, h3, h4, h5, h6⟩ := atRound_read k
    obtain ⟨g0, g1⟩ := round_kept (atRound m k c)
    have g3 := round_index (atRound m k c)
    have g4 := round_dist (atRound m k c)
    have g5 := round_choice (atRound m k c)
    have g6 := round_record (atRound m k c)
    rw [h0, h1, h4, h5] at g4 g5
    rw [h3, h5, h6] at g6
    rw [h3] at g3
    rw [state_succ]
    dsimp only
    refine ⟨g0.trans h0, g1.trans h1, g3.trans ?_, g4, g5, g6⟩
    rw [Scf.iv_succ]
    rfl

/-- The centres the reference ends with. -/
abbrev outC (X : FVec F S32x8192x3 .f32) : FVec F S32x128x3 .f32 := centers X (state X 128).2.2

/-- The neighbours' words from the centres. -/
abbrev outI (X : FVec F S32x8192x3 .f32) (C : FVec F S32x128x3 .f32) : IVec S32x128x32 32 := nearest X C

/-- The neighbours' relative points from the centres. -/
abbrev outR (X : FVec F S32x8192x3 .f32) (C : FVec F S32x128x3 .f32) : FVec F S131072x3 .f32 :=
  rel (takeG X (rowOf (nearest X C))) C

/-- The results after `main`. -/
theorem final_read (X : FVec F S32x8192x3 .f32) (hX : StableHlo.launchContents m c main_arg0 = X) :
    final m c main_v14 = outC X ∧ final m c main_indices = outI X (outC X)
    ∧ final m c main_v69 = tokens (outR X (outC X)) (StableHlo.launchContents m c main_arg1)
        (StableHlo.launchContents m c main_arg2) (StableHlo.launchContents m c main_arg3)
        (StableHlo.launchContents m c main_arg4) (StableHlo.launchContents m c main_arg5)
        (StableHlo.launchContents m c main_arg6) (StableHlo.launchContents m c main_arg7)
        (StableHlo.launchContents m c main_arg8) := by
  obtain ⟨-, -, -, -, -, h6⟩ := atRound_read m c 128
  obtain ⟨a0, a1, a2, a3, a4, a5, a6, a7, a8⟩ := atRound_args m c 128
  show after postF (after postE (after postD (after postC (after postB (after postA (after condOps (atRound m 128 c)))))))
      main_v14 = _
    ∧ after postF (after postE (after postD (after postC (after postB (after postA (after condOps (atRound m 128 c)))))))
      main_indices = _
    ∧ after postF (after postE (after postD (after postC (after postB (after postA (after condOps (atRound m 128 c)))))))
      main_v69 = _
  generalize atRound m 128 c = V at *
  have hB := postB_read V
  obtain ⟨b0, b1, b2, b3, b4, b5, b6, b7, b8⟩ := postB_kept V
  generalize after postB (after postA (after condOps V)) = V1 at *
  obtain ⟨hC, hC'⟩ := postC_read V1
  obtain ⟨⟨c0, c1, c2, c3, c4, c5, c6, c7, c8⟩, c14⟩ := postC_kept V1
  generalize after postC V1 = V2 at *
  have hD := postD_read V2
  obtain ⟨⟨d0, d1, d2, d3, d4, d5, d6, d7, d8⟩, d14, di⟩ := postD_kept V2
  generalize after postD V2 = V3 at *
  obtain ⟨hE, hE'⟩ := postE_read V3
  obtain ⟨⟨e0, e1, e2, e3, e4, e5, e6, e7, e8⟩, e14, ei⟩ := postE_kept V3
  generalize after postE V3 = V4 at *
  have hF := postF_read V4
  obtain ⟨f14, fi⟩ := postF_kept V4
  generalize after postF V4 = V5 at *
  have h14 : V1 main_v14 = outC X := by rw [hB, h6, a0, hX]
  have hI : V2 main_indices = outI X (outC X) := by rw [hC, h14, b0, a0, hX]
  refine ⟨by rw [f14, e14, d14, c14, h14], by rw [fi, ei, di, hI], ?_⟩
  rw [hF, hE, hE', hD, hC', h14, e3, e4, e5, e6, e7, e8, d1, d2, d3, d4, d5, d6, d7, d8, d14, c0, c1, c2, c3, c4, c5, c6,
    c7, c8, c14, h14, b0, b1, b2, b3, b4, b5, b6, b7, b8, a0, a1, a2, a3, a4, a5, a6, a7, a8, hX]
  rfl

end Cert.Proof.Ref
-- ==== Proof.KernelRun.lean ====
/-
  The kernel's region: what it writes to its arrays, the loop's carried values; and the kernel's results.
-/
module

public import proofs.«01_k».proof.Proof.KernelTail
public import proofs.«01_k».proof.Proof.RefRead
public import Idealize.ShloMosaic.Lib.Pipeline.ReadBack

@[expose] public section

set_option maxRecDepth 16384

noncomputable section

namespace Cert.Proof.Ker

open Cert.KernelIdeal Cert.KernelIdeal.Gen
open Idealize.ShloMosaic Idealize.ShloMosaic.TcCoe Idealize.SL.Sem
open Idealize.ShloMosaic.Tactic
open Idealize.ShloMosaic.StableHlo (after)

variable {F : FTy → Type} [FloatOps F]

/-- What the loop carries: the distances, the choice, the choices recorded, their three coordinates recorded. -/
abbrev Carried (F : FTy → Type) [FloatOps F] : Type :=
  FVec F S32x8192 .f32 × IVec S32x1 32 × IVec S32x128 32 × FVec F S32x128 .f32 × FVec F S32x128 .f32 × FVec F S32x128 .f32

/-- Places along the points' axis. -/
abbrev places : IVec S32x8192 32 := iota .tc S32x8192 32 [1] Facts₀.iota_S32x8192_d1_w32

/-- Places along the rounds' axis. -/
abbrev rounds : IVec S32x128 32 := iota .tc S32x128 32 [1] Facts₀.iota_S32x128_d1_w32

/-- One round of the loop, from the points' coordinates. -/
def step (x y z : FVec F S32x8192 .f32) (k : Fin k0_t1_loop.trips) (s : Carried F) : Carried F :=
  (k0_pay12 (k0_pay14 x) (k0_pay15 y) (k0_pay16 z) places s.1 s.2.1,
    k0_pay13 (k0_pay14 x) (k0_pay15 y) (k0_pay16 z) places s.1 s.2.1,
    k0_pay8 rounds k s.2.1 s.2.2.1,
    k0_pay9 (k0_pay14 x) places rounds k s.2.1 s.2.2.2.1,
    k0_pay10 (k0_pay15 y) places rounds k s.2.1 s.2.2.2.2.1,
    k0_pay11 (k0_pay16 z) places rounds k s.2.1 s.2.2.2.2.2)

/-- What the loop starts from. -/
def start (x y z : FVec F S32x8192 .f32) : Carried F :=
  (k0_pay18, k0_pay17 x y z, k0_pay19, k0_pay20, k0_pay1, k0_pay2)

/-- What the loop ends with. -/
def ended (x y z : FVec F S32x8192 .f32) : Carried F := Scf.fold (step x y z) (start x y z)

/-- A fact kept by every round holds of the loop's end. -/
theorem ended_induction (x y z : FVec F S32x8192 .f32) (P : ℕ → Carried F → Prop) (h0 : P 0 (start x y z))
    (hs : ∀ (k : Fin k0_t1_loop.trips) (s : Carried F), P k s → P (k + 1) (step x y z k s)) :
    P k0_t1_loop.trips (ended x y z) := by
  unfold ended
  rw [Scf.fold_eq]
  have key : ∀ (l : List (Fin k0_t1_loop.trips)) (a : ℕ) (s : Carried F), l.map Fin.val = List.range' a l.length → P a s →
      P (a + l.length) (l.foldl (fun acc k => step x y z k acc) s) := by
    intro l
    induction l with
    | nil => intro a s _ h; exact h
    | cons k l ih =>
      intro a s hl h
      rw [List.map_cons, List.length_cons, List.range'_succ, List.cons.injEq] at hl
      have := ih (a + 1) (step x y z k s) hl.2 (hl.1 ▸ hs k s (hl.1.symm ▸ h))
      rw [List.length_cons, List.foldl_cons, ← Nat.add_assoc, Nat.add_right_comm]
      exact this
  have h := key (List.finRange k0_t1_loop.trips) 0 (start x y z) (by
    rw [List.length_finRange, List.map_coe_finRange_eq_range, List.range_eq_range']) h0
  rwa [List.length_finRange, Nat.zero_add] at h

variable (m : (ℓ : Loc nD τ sig) → Buf (Elt F) ℓ) (c : Dev nD)

/-- Each coordinate of the points, as the region finds it. -/
abbrev cX (X : FVec F S32x8192x3 .f32) : FVec F S32x8192 .f32 :=
  shapeCast S32x8192 (extractStridedSlice S32x8192x1 ![0, 0, 0] X Facts₀.slices_S32x8192x3_S32x8192x1_0_0_0)
    Facts₀.shapeCasts_S32x8192x1_S32x8192
abbrev cY (X : FVec F S32x8192x3 .f32) : FVec F S32x8192 .f32 :=
  shapeCast S32x8192 (extractStridedSlice S32x8192x1 ![0, 0, 1] X Facts₀.slices_S32x8192x3_S32x8192x1_0_0_1)
    Facts₀.shapeCasts_S32x8192x1_S32x8192
abbrev cZ (X : FVec F S32x8192x3 .f32) : FVec F S32x8192 .f32 :=
  shapeCast S32x8192 (extractStridedSlice S32x8192x1 ![0, 0, 2] X Facts₀.slices_S32x8192x3_S32x8192x1_0_0_2)
    Facts₀.shapeCasts_S32x8192x1_S32x8192

theorem V_x : V m c main_v1 = cX (m ((c : Thread nD τ).loc main_arg0)) := by
  show after hostOps0 (fun b => m (c, b)) main_v1 = _
  after_reads_simp
  rfl

theorem V_y : V m c main_v3 = cY (m ((c : Thread nD τ).loc main_arg0)) := by
  show after hostOps0 (fun b => m (c, b)) main_v3 = _
  after_reads_simp
  rfl

theorem V_z : V m c main_v5 = cZ (m ((c : Thread nD τ).loc main_arg0)) := by
  show after hostOps0 (fun b => m (c, b)) main_v5 = _
  after_reads_simp
  rfl

/-- Every window's block index at the one point. -/
theorem idx0 : ∀ t : Fin cfg0.N, win0_0.index t = ![0, 0] ∧ win0_1.index t = ![0, 0] ∧ win0_2.index t = ![0, 0] :=
  (by decide +kernel : ∀ t : Fin grid0.N, _)

/-- Each input's block is its array. -/
theorem iblk0 : iblk m c 0 t0_0 = cX (m ((c : Thread nD τ).loc main_arg0)) := by
  rw [← V_x m c]
  generalize hV : V m c main_v1 = W
  blk_ext! [iblk, hV, idx0 t0_0]

theorem iblk1 : iblk m c 1 t0_0 = cY (m ((c : Thread nD τ).loc main_arg0)) := by
  rw [← V_y m c]
  generalize hV : V m c main_v3 = W
  blk_ext! [iblk, hV, idx0 t0_0]

theorem iblk2 : iblk m c 2 t0_0 = cZ (m ((c : Thread nD τ).loc main_arg0)) := by
  rw [← V_z m c]
  generalize hV : V m c main_v5 = W
  blk_ext! [iblk, hV, idx0 t0_0]

/-- The loop's end from the points. -/
abbrev endOf (X : FVec F S32x8192x3 .f32) : Carried F := ended (cX X) (cY X) (cZ X)

/-- The chosen points' first coordinates. -/
theorem out4 : (dats m 0 c).arrAt 4 (cfgs 0).N = (endOf (m ((c : Thread nD τ).loc main_arg0))).2.2.2.1 := by
  refine (dats m 0 c).arrAt_eq_of_after_last 4 t0_0 (by decide +kernel) _ fun j => ?_
  blk_simp
  rw [after0_4]
  frame_out
  rw [iblk0, iblk1, iblk2]
  erw [read_unread_whole, read_unread_whole, read_unread_whole]
  rfl

/-- The chosen points' second coordinates. -/
theorem out5 : (dats m 0 c).arrAt 5 (cfgs 0).N = (endOf (m ((c : Thread nD τ).loc main_arg0))).2.2.2.2.1 := by
  refine (dats m 0 c).arrAt_eq_of_after_last 5 t0_0 (by decide +kernel) _ fun j => ?_
  blk_simp
  rw [after0_5]
  frame_out
  rw [iblk0, iblk1, iblk2]
  erw [read_unread_whole, read_unread_whole, read_unread_whole]
  rfl

/-- The chosen points' third coordinates. -/
theorem out6 : (dats m 0 c).arrAt 6 (cfgs 0).N = (endOf (m ((c : Thread nD τ).loc main_arg0))).2.2.2.2.2 := by
  refine (dats m 0 c).arrAt_eq_of_after_last 6 t0_0 (by decide +kernel) _ fun j => ?_
  blk_simp
  rw [after0_6]
  frame_out
  rw [iblk0, iblk1, iblk2]
  erw [read_unread_whole, read_unread_whole, read_unread_whole]
  rfl

/-- The centres from the points. -/
def centers (X : FVec F S32x8192x3 .f32) : FVec F S32x128x3 .f32 :=
  stack (endOf X).2.2.2.1 (endOf X).2.2.2.2.1 (endOf X).2.2.2.2.2

/-- The contents the host operations after the region start from. -/
abbrev left : Valuation τ sig (Elt F) :=
  Pipeline.withArrays (cfgs 0).spec c (V0 m c) fun w => (dats m 0 c).arrAt w (cfgs 0).N

theorem arr_injective : Function.Injective (Pipeline.arrRef spec0) := by decide +kernel

theorem left_out : left m c main_v6_1 = (endOf (m ((c : Thread nD τ).loc main_arg0))).2.2.2.1
    ∧ left m c main_v6_2 = (endOf (m ((c : Thread nD τ).loc main_arg0))).2.2.2.2.1
    ∧ left m c main_v6_3 = (endOf (m ((c : Thread nD τ).loc main_arg0))).2.2.2.2.2 :=
  ⟨(Pipeline.withArrays_arr spec0 arr_injective c (V0 m c) _ 4).trans (out4 m c),
    (Pipeline.withArrays_arr spec0 arr_injective c (V0 m c) _ 5).trans (out5 m c),
    (Pipeline.withArrays_arr spec0 arr_injective c (V0 m c) _ 6).trans (out6 m c)⟩

theorem left_kept : Args fun b => left m c (Proc.devRef .tc b) = m ((c : Thread nD τ).loc b) := by
  refine ⟨?_, ?_, ?_, ?_, ?_, ?_, ?_, ?_, ?_⟩
  · exact (Pipeline.withArrays_of_ne spec0 c (V0 m c) _ main_arg0 (by decide)).trans (V_main_arg0 m c)
  · exact (Pipeline.withArrays_of_ne spec0 c (V0 m c) _ main_arg1 (by decide)).trans (V_main_arg1 m c)
  · exact (Pipeline.withArrays_of_ne spec0 c (V0 m c) _ main_arg2 (by decide)).trans (V_main_arg2 m c)
  · exact (Pipeline.withArrays_of_ne spec0 c (V0 m c) _ main_arg3 (by decide)).trans (V_main_arg3 m c)
  · exact (Pipeline.withArrays_of_ne spec0 c (V0 m c) _ main_arg4 (by decide)).trans (V_main_arg4 m c)
  · exact (Pipeline.withArrays_of_ne spec0 c (V0 m c) _ main_arg5 (by decide)).trans (V_main_arg5 m c)
  · exact (Pipeline.withArrays_of_ne spec0 c (V0 m c) _ main_arg6 (by decide)).trans (V_main_arg6 m c)
  · exact (Pipeline.withArrays_of_ne spec0 c (V0 m c) _ main_arg7 (by decide)).trans (V_main_arg7 m c)
  · exact (Pipeline.withArrays_of_ne spec0 c (V0 m c) _ main_arg8 (by decide)).trans (V_main_arg8 m c)

/-- The tail's end is three stretches after the region. -/
theorem tail_eq (b : Ref sig .tc) : Pipeline.afterTail₀ cfgs (dats m) 0 (V0 m) [hostOps1, hostOps1_1, hostOps1_2] c b
    = after hostOps1_2 (after hostOps1_1 (after hostOps1 (left m c))) (Proc.devRef .tc b) := by
  unfold Pipeline.afterTail₀
  rw [List.flatten_cons, List.flatten_cons, List.flatten_cons, List.flatten_nil, List.append_nil, StableHlo.after_append,
    StableHlo.after_append]

/-- What the tail leaves in the results, from the points and the weights. -/
theorem tail_read (X : FVec F S32x8192x3 .f32) (hX : m ((c : Thread nD τ).loc main_arg0) = X) :
    after hostOps1_2 (after hostOps1_1 (after hostOps1 (left m c))) main_v10 = centers X
    ∧ after hostOps1_2 (after hostOps1_1 (after hostOps1 (left m c))) main_indices = Proof.Ref.outI X (centers X)
    ∧ after hostOps1_2 (after hostOps1_1 (after hostOps1 (left m c))) main_v65
      = Ref.tokens (F := F) (Proof.Ref.outR X (centers X)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have hout := left_out m c
  have hkept := left_kept m c
  generalize left m c = L at hout hkept ⊢
  obtain ⟨x, y, z⟩ := hout
  obtain ⟨k0, k1, k2, k3, k4, k5, k6, k7, k8⟩ := hkept
  rw [hX] at x y z k0
  obtain ⟨s1, s2, s3⟩ := tail1_read L
  obtain ⟨a0, a1, a2, a3, a4, a5, a6, a7, a8⟩ := tail1_kept L
  rw [x, y, z] at s1
  rw [x, y, z, k0] at s2 s3
  generalize after hostOps1 L = L1 at *
  have t1 := tail2_read L1
  obtain ⟨⟨b0, b1, b2, b3, b4, b5, b6, b7, b8⟩, bc, bi⟩ := tail2_kept L1
  rw [a0, k0, s3] at t1
  generalize after hostOps1_1 L1 = L2 at *
  obtain ⟨uc, ui⟩ := tail3_kept L2
  refine ⟨uc.trans (bc.trans s1), ui.trans (bi.trans s2), ?_⟩
  rw [tail3_read L2, t1, bc, s1, b1, b2, b3, b4, b5, b6, b7, b8, a1, a2, a3, a4, a5, a6, a7, a8, k1, k2, k3, k4, k5, k6, k7, k8]
  rfl

/-- What a run of the kernel leaves in its results. -/
theorem results (ρ : Dev nD → PrngReg) : θ_run defs (onTc (τ := τ) (main (F := F))) ⟨m, fun _ => 0, ρ⟩ (fun r => ∀ c : Dev nD,
    r.2.mem ((c.tc : Thread nD τ).loc main_v65)
        = Ref.tokens (F := F) (Proof.Ref.outR (m ((c : Thread nD τ).loc main_arg0)) (centers (m ((c : Thread nD τ).loc main_arg0))))
          (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_v10) = centers (F := F) (m ((c : Thread nD τ).loc main_arg0))
      ∧ r.2.mem ((c.tc : Thread nD τ).loc main_indices)
        = Proof.Ref.outI (F := F) (m ((c : Thread nD τ).loc main_arg0)) (centers (m ((c : Thread nD τ).loc main_arg0)))) := by
  refine θ_run_mono (run_main m ρ) fun r h c => ?_
  obtain ⟨hc, hi, ht⟩ := tail_read m c _ rfl
  exact ⟨(((h c).2 main_v65 (Pipeline.mem_restRefs_of main_v65 (by decide) (by decide))).trans (tail_eq m c main_v65)).trans ht,
    (((h c).2 main_v10 (Pipeline.mem_restRefs_of main_v10 (by decide) (by decide))).trans (tail_eq m c main_v10)).trans hc,
    (((h c).2 main_indices (Pipeline.mem_restRefs_of main_indices (by decide) (by decide))).trans (tail_eq m c main_indices)).trans hi⟩

end Cert.Proof.Ker
-- ==== Proof.ArgMax.lean ====
/-
  The first place of a row's greatest entry: the kernel's least place among those that hold the row's maximum, and the
  reference's reduction of pairs, are both that place.
-/
module

public import proofs.«01_k».proof.Proof.Stages
public import proofs.«01_k».proof.Proof.KernelRun
public import Idealize.ShloMosaic.Lib.Pointwise
public import Idealize.ShloMosaic.Lib.SortNet.Extract

@[expose] public section

set_option maxRecDepth 16384

noncomputable section

namespace Cert.Proof

open Idealize.ShloMosaic Idealize.SL.Sem

/-- A place of the row `d` whose entry is greatest, and greater than every entry before it. -/
def First (d : Fin 8192 → EReal) (n : Fin 8192) : Prop := ∀ k, d k < d n ∨ (d k = d n ∧ n ≤ k)

theorem First.le {d : Fin 8192 → EReal} {n : Fin 8192} (h : First d n) (k : Fin 8192) : d k ≤ d n :=
  (h k).elim le_of_lt fun e => e.1.le

theorem First.place_le {d : Fin 8192 → EReal} {n : Fin 8192} (h : First d n) {k : Fin 8192} (e : d k = d n) : n ≤ k :=
  (h k).elim (fun l => absurd e l.ne) And.right

theorem toInt_ofNat_place (n : Fin 8192) : (BitVec.ofNat 32 (n : ℕ)).toInt = (n : ℕ) := by
  have := n.isLt
  rw [BitVec.toInt_eq_toNat_cond, BitVec.toNat_ofNat]; split <;> omega

/-- The greatest entry, as a fold. -/
theorem fold_max_of_first {d : Fin 8192 → EReal} {n : Fin 8192} (h : First d n) (i : EReal) (hi : i = ⊥) :
    Finset.fold max i d Finset.univ = d n := by
  subst hi
  refine le_antisymm ?_ ?_
  · rw [Finset.fold_max_le]
    exact ⟨bot_le, fun k _ => h.le k⟩
  · rw [Finset.le_fold_max]
    exact Or.inr ⟨n, Finset.mem_univ _, le_rfl⟩

/-- The least word of a family, as a fold. -/
theorem fold_minsi_eq (g : Fin 8192 → BitVec 32) (i w : BitVec 32) (hi : w.toInt ≤ i.toInt) (hg : ∀ k, w.toInt ≤ (g k).toInt)
    (n : Fin 8192) (hn : g n = w) : Finset.fold IntOp.minsi i g Finset.univ = w := by
  have hom : Finset.fold min i.toInt (fun k => (g k).toInt) Finset.univ = (Finset.fold IntOp.minsi i g Finset.univ).toInt :=
    Finset.fold_hom (m := BitVec.toInt) (fun x y => SortNet.toInt_minsi x y)
  refine BitVec.eq_of_toInt_eq ?_
  rw [← hom]
  refine le_antisymm ?_ ?_
  · rw [Finset.fold_min_le]
    exact Or.inr ⟨n, Finset.mem_univ _, by rw [hn]⟩
  · rw [Finset.le_fold_min]
    exact ⟨hi, fun k _ => hg k⟩

/-- The greatest entry's first place, found by a fold of pairs: what the fold leaves is one of the pairs, none of them is before it. -/
theorem fold_pairs (l : List (EReal × BitVec 32)) (init : EReal × BitVec 32) :
    (l.foldl (Cert.ReferenceIdeal.reducer_argmax_f32_i32 (F := Ideal)) init = init
        ∨ l.foldl (Cert.ReferenceIdeal.reducer_argmax_f32_i32 (F := Ideal)) init ∈ l)
      ∧ ∀ p, p = init ∨ p ∈ l → p.1 < (l.foldl (Cert.ReferenceIdeal.reducer_argmax_f32_i32 (F := Ideal)) init).1
        ∨ (p.1 = (l.foldl (Cert.ReferenceIdeal.reducer_argmax_f32_i32 (F := Ideal)) init).1
          ∧ (l.foldl (Cert.ReferenceIdeal.reducer_argmax_f32_i32 (F := Ideal)) init).2.toInt ≤ p.2.toInt) := by
  induction l generalizing init with
  | nil =>
    refine ⟨.inl rfl, fun p hp => ?_⟩
    rcases hp with rfl | hp
    · exact .inr ⟨rfl, le_rfl⟩
    · cases hp
  | cons q l ih =>
    rw [List.foldl_cons]
    obtain ⟨hm, hb⟩ := ih (Cert.ReferenceIdeal.reducer_argmax_f32_i32 (F := Ideal) init q)
    generalize List.foldl (Cert.ReferenceIdeal.reducer_argmax_f32_i32 (F := Ideal))
      (Cert.ReferenceIdeal.reducer_argmax_f32_i32 (F := Ideal) init q) l = r at hm hb
    have hc : (Cert.ReferenceIdeal.reducer_argmax_f32_i32 (F := Ideal) init q = init
          ∧ (q.1 < init.1 ∨ (q.1 = init.1 ∧ init.2.toInt ≤ q.2.toInt)))
        ∨ (Cert.ReferenceIdeal.reducer_argmax_f32_i32 (F := Ideal) init q = q
          ∧ (init.1 < q.1 ∨ (init.1 = q.1 ∧ q.2.toInt ≤ init.2.toInt))) := by
      obtain ⟨a, i⟩ := init
      obtain ⟨b, k⟩ := q
      have hne : Ideal.cmp .une a a = 0#1 := by simp [Ideal.cmp]
      simp only [Cert.ReferenceIdeal.reducer_argmax_f32_i32, Ideal.cmpf_def, hne]
      rcases lt_trichotomy a b with h | h | h
      · have h1 : Ideal.cmp .ogt a b = 0#1 := by simp [Ideal.cmp, not_lt.2 h.le]
        have h2 : Ideal.cmp .oeq a b = 0#1 := by simp [Ideal.cmp, h.ne]
        refine .inr ⟨?_, .inl h⟩
        simp [h1, h2, IntOp.ori, IntOp.andi, Scalar.select]
      · subst h
        have h1 : Ideal.cmp .ogt a a = 0#1 := by simp [Ideal.cmp]
        have h2 : Ideal.cmp .oeq a a = 1#1 := by simp [Ideal.cmp]
        by_cases hs : i.toInt < k.toInt
        · refine .inl ⟨?_, .inr ⟨rfl, hs.le⟩⟩
          simp [h1, h2, IntOp.ori, IntOp.andi, IntOp.cmpi, BitVec.slt, hs, Scalar.select]
        · refine .inr ⟨?_, .inr ⟨rfl, not_lt.1 hs⟩⟩
          simp [h1, h2, IntOp.ori, IntOp.andi, IntOp.cmpi, BitVec.slt, hs, Scalar.select]
      · have h1 : Ideal.cmp .ogt a b = 1#1 := by simp [Ideal.cmp, h]
        refine .inl ⟨?_, .inl h⟩
        have hor : ∀ x : BitVec 1, 1#1 ||| x = 1#1 := by decide
        simp [h1, IntOp.ori, IntOp.andi, Scalar.select, hor]
    generalize Cert.ReferenceIdeal.reducer_argmax_f32_i32 (F := Ideal) init q = s at hm hb hc
    have tr : ∀ u v : EReal × BitVec 32, (u.1 < v.1 ∨ (u.1 = v.1 ∧ v.2.toInt ≤ u.2.toInt)) →
        (v.1 < r.1 ∨ (v.1 = r.1 ∧ r.2.toInt ≤ v.2.toInt)) → (u.1 < r.1 ∨ (u.1 = r.1 ∧ r.2.toInt ≤ u.2.toInt)) := by
      rintro u v (h | ⟨h, h'⟩) (g | ⟨g, g'⟩)
      · exact .inl (h.trans g)
      · exact .inl (g ▸ h)
      · exact .inl (h ▸ g)
      · exact .inr ⟨h.trans g, g'.trans h'⟩
    rcases hc with ⟨rfl, hq⟩ | ⟨rfl, hq⟩
    · refine ⟨hm.imp id (List.mem_cons_of_mem _), fun p hp => ?_⟩
      rcases hp with rfl | hp
      · exact hb _ (.inl rfl)
      · rcases List.mem_cons.1 hp with rfl | hp
        · exact tr _ _ hq (hb _ (.inl rfl))
        · exact hb _ (.inr hp)
    · refine ⟨.inr (hm.elim (fun e => e ▸ List.mem_cons_self) (List.mem_cons_of_mem _)), fun p hp => ?_⟩
      rcases hp with rfl | hp
      · exact tr _ _ hq (hb _ (.inl rfl))
      · rcases List.mem_cons.1 hp with rfl | hp
        · exact hb _ (.inl rfl)
        · exact hb _ (.inr hp)

/-- What the pattern of minus infinity denotes. -/
theorem ofBits_neg_inf : Ideal.ofBits .f32 0xFF800000#32 = ⊥ := by
  simp [Ideal.ofBits, Ideal.ieee]

namespace Ref

open Cert.ReferenceIdeal

/-- The reference's choice is the first place of the greatest entry. -/
theorem argmax_first (d : FVec Ideal S32x8192 .f32) (b : Fin 32) :
    ∃ n : Fin 8192, argmax d (ix1 b) = BitVec.ofNat 32 n ∧ First (fun k => d (ix2 b k)) n := by
  unfold argmax
  rw [Ideal.argReduce_eq_reduce2, Host.reduce2_eq_foldl_fiber]
  have hmem : ∀ p : EReal × BitVec 32, p ∈ Host.argReduceFiber d (iotaInDim S32x8192 32 1) Facts₀.reducesTo_S32x8192_S32_d1 (ix1 b)
      ↔ ∃ k : Fin 8192, p = (d (ix2 b k), BitVec.ofNat 32 k) := by
    intro p
    simp only [Host.argReduceFiber, List.mem_map, List.mem_filter, List.mem_finRange, true_and, decide_eq_true_eq]
    have hd : ∀ (u : Fin 32) (k : Fin 8192), Facts₀.reducesTo_S32x8192_S32_d1.drop (ix2 u k) = ix1 u := by
      intro u k
      funext a; fin_cases a; rfl
    constructor
    · rintro ⟨n, hn, rfl⟩
      obtain ⟨u, k, e⟩ : ∃ (u : Fin 32) (k : Fin 8192), S32x8192.rowMajor.symm n = ix2 u k := ⟨_, _, eq_ix2 _⟩
      rw [e, hd] at hn
      have hu : u = b := congrFun hn 0
      subst hu
      refine ⟨k, ?_⟩
      rw [e]
      pointwise
    · rintro ⟨k, rfl⟩
      refine ⟨S32x8192.rowMajor (ix2 b k), ?_, ?_⟩
      · rw [Equiv.symm_apply_apply, hd]
      · rw [Equiv.symm_apply_apply]
        pointwise
  generalize Host.argReduceFiber d (iotaInDim S32x8192 32 1) Facts₀.reducesTo_S32x8192_S32_d1 (ix1 b) = l at hmem
  have hi : ((constant S_ .f32 0xFF800000#32 : FVec Ideal S_ .f32) (Shape.Idx.first Facts₀.h_S_),
      (constantI S_ 32 0#32) (Shape.Idx.first Facts₀.h_S_)) = ((⊥ : EReal), 0#32) :=
    Prod.ext ofBits_neg_inf rfl
  erw [hi]
  obtain ⟨hm, hb⟩ := fold_pairs l (⊥, 0#32)
  generalize l.foldl (reducer_argmax_f32_i32 (F := Ideal)) ((⊥ : EReal), 0#32) = r at hm hb
  have hr : ∃ n : Fin 8192, r = (d (ix2 b n), BitVec.ofNat 32 n) := by
    rcases hm with rfl | hm
    · refine ⟨0, Prod.ext ?_ rfl⟩
      have h0 := hb (d (ix2 b 0), BitVec.ofNat 32 (0 : Fin 8192)) (.inr ((hmem _).2 ⟨0, rfl⟩))
      rcases h0 with h0 | h0
      · exact absurd h0 not_lt_bot
      · exact h0.1.symm
    · exact (hmem r).1 hm
  obtain ⟨n, rfl⟩ := hr
  refine ⟨n, rfl, fun k => ?_⟩
  rcases hb (d (ix2 b k), BitVec.ofNat 32 k) (.inr ((hmem _).2 ⟨k, rfl⟩)) with h | ⟨h, h'⟩
  · exact .inl h
  · refine .inr ⟨h, ?_⟩
    simp only [toInt_ofNat_place] at h'
    exact Fin.le_def.2 (by omega)

end Ref

namespace Ker

open Cert.KernelIdeal Cert.KernelIdeal.Gen

/-- The first place of each batch's greatest entry, as the kernel takes it. -/
def firstOf (d : FVec Ideal S32x8192 .f32) : IVec S32x1 32 :=
  shapeCast S32x1
    (multiReductionI .minsi [1] S32
      (select
        (cmpf .oeq d
          (broadcastTo S32x8192
            (shapeCast S32x1
              (multiReduction .maximumf [1] S32 d 0xFF800000#32 Facts₀.reduces_S32x8192_S32 (.inl rfl) rfl)
              Facts₀.shapeCasts_S32_S32x1)
            Facts₀.broadcasts_S32x1_S32x8192))
        places (broadcast S32x8192 8192#32))
      2147483647#32 Facts₀.reduces_S32x8192_S32 rfl)
    Facts₀.shapeCasts_S32_S32x1

theorem firstOf_apply (d : FVec Ideal S32x8192 .f32) (b : Fin 32) (n : Fin 8192) (h : First (fun k => d (ix2 b k)) n) :
    firstOf d (ix2 b 0) = BitVec.ofNat 32 n := by
  have hn := n.isLt
  pointwise [firstOf]
  rw [fold_max_of_first h _ ofBits_neg_inf]
  refine fold_minsi_eq _ _ _ ?_ (fun k => ?_) n (if_pos rfl)
  · rw [toInt_ofNat_place]
    show ((n : ℕ) : ℤ) ≤ 2147483647
    omega
  · split
    · next e =>
      have := Fin.le_def.1 (h.place_le e)
      rw [toInt_ofNat_place, toInt_ofNat_place]
      omega
    · rw [toInt_ofNat_place]
      show ((n : ℕ) : ℤ) ≤ 8192
      omega

/-- The kernel's choice is the reference's. -/
theorem firstOf_eq (d : FVec Ideal S32x8192 .f32) (b : Fin 32) : firstOf d (ix2 b 0) = Ref.argmax d (ix1 b) := by
  obtain ⟨n, e, h⟩ := Ref.argmax_first d b
  rw [e, firstOf_apply d b n h]

end Ker

end Cert.Proof
-- ==== Proof.Words.lean ====
/-
  The points read at words, and the words recorded: what the reference's gathers and its scatter leave at an index, at
  words that are places of a batch.
-/
module

public import proofs.«01_k».proof.Proof.Stages
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Facts₀ Cert.ReferenceIdeal.Facts
open Idealize.ShloMosaic Idealize.SL.Sem

/-- The place a word names, for a word below the number of points. -/
abbrev place (w : BitVec 32) (h : w.toNat < 8192) : Fin 8192 := ⟨w.toNat, h⟩

theorem toInt_of_lt (w : BitVec 32) (h : w.toNat < 8192) : w.toInt = w.toNat := by
  rw [BitVec.toInt_eq_toNat_cond]; split <;> omega

/-- A word that is not negative is not wrapped. -/
theorem slt_zero_of_lt (w : BitVec 32) (h : w.toNat < 8192) : IntOp.cmpi .slt w 0#32 = 0#1 := by
  have h1 : ¬ (w.toInt < 0) := by rw [toInt_of_lt w h]; omega
  simp [IntOp.cmpi, BitVec.slt, h1]

variable (X : FVec Ideal S32x8192x3 .f32)

theorem wrap_apply (n : BitVec 32) (f : IVec S32 32) (b : Fin 32) (h : (f (ix1 b)).toNat < 8192) : wrap n f (ix1 b) = f (ix1 b) := by
  pointwise [wrap]
  rw [slt_zero_of_lt _ h]
  rfl

/-- A gather of one point per batch, at the batch's own word and a place's. -/
theorem gather2_apply (idx : IVec S32x2 32) (b : Fin 32) (c : Fin 3) (n : Fin 8192) (h0 : idx (ix2 b 0) = BitVec.ofNat 32 b)
    (h1 : idx (ix2 b 1) = BitVec.ofNat 32 n) :
    Host.gather gather_S32x8192x3_S32x2_S32x3_1_01_n_n_01_1_113 X idx (ix2 b c) = X (ix3 b n c) := by
  show X _ = X _
  congr 1
  have e0 : (BitVec.ofNat 32 (b : ℕ)).toInt = (b : ℕ) := by
    have := b.isLt
    rw [BitVec.toInt_eq_toNat_cond, BitVec.toNat_ofNat]; split <;> omega
  have e1 : (BitVec.ofNat 32 (n : ℕ)).toInt = (n : ℕ) := by
    have := n.isLt
    rw [BitVec.toInt_eq_toNat_cond, BitVec.toNat_ofNat]; split <;> omega
  have s0 : gather_S32x8192x3_S32x2_S32x3_1_01_n_n_01_1_113.siIdx (ix2 b c) ⟨0, by decide⟩ = ix2 b 0 := by
    funext a; fin_cases a <;> rfl
  have s1 : gather_S32x8192x3_S32x2_S32x3_1_01_n_n_01_1_113.siIdx (ix2 b c) ⟨1, by decide⟩ = ix2 b 1 := by
    funext a; fin_cases a <;> rfl
  funext a
  apply Fin.ext
  fin_cases a
  · show min (idx (gather_S32x8192x3_S32x2_S32x3_1_01_n_n_01_1_113.siIdx (ix2 b c) ⟨0, by decide⟩)).toInt.toNat (32 - 1) + 0 + 0 = (b : ℕ)
    rw [s0, h0, e0]
    have := b.isLt
    omega
  · show min (idx (gather_S32x8192x3_S32x2_S32x3_1_01_n_n_01_1_113.siIdx (ix2 b c) ⟨1, by decide⟩)).toInt.toNat (8192 - 1) + 0 + 0 = (n : ℕ)
    rw [s1, h1, e1]
    have := n.isLt
    omega
  · show 0 + 0 + (c : ℕ) = (c : ℕ)
    omega

/-- The point of each batch at a place. -/
theorem pointAt_apply (f : IVec S32 32) (b : Fin 32) (c : Fin 3) (n : Fin 8192) (h : f (ix1 b) = BitVec.ofNat 32 n) :
    pointAt X (iotaInDim S32 32 0) f (ix2 b c) = X (ix3 b n c) := by
  have hn := n.isLt
  have hb := b.isLt
  refine gather2_apply X _ b c n ?_ ?_
  · pointwise
    rw [wrap_apply]
    · pointwise
    · pointwise
      rw [BitVec.toNat_ofNat]
      omega
  · pointwise
    rw [wrap_apply, h]
    rw [h, BitVec.toNat_ofNat]
    omega

/-- A gather of 128 points per batch, at a place. -/
theorem gather3_apply (idx : IVec S32x128x1 32) (b : Fin 32) (g : Fin 128) (c : Fin 3) (n : Fin 8192)
    (h : idx (ix3 b g 0) = BitVec.ofNat 32 n) :
    Host.gather gather_S32x8192x3_S32x128x1_S32x128x3_2_1_0_0_1_2_113 X idx (ix3 b g c) = X (ix3 b n c) := by
  show X _ = X _
  congr 1
  have e1 : (BitVec.ofNat 32 (n : ℕ)).toInt = (n : ℕ) := by
    have := n.isLt
    rw [BitVec.toInt_eq_toNat_cond, BitVec.toNat_ofNat]; split <;> omega
  have s1 : gather_S32x8192x3_S32x128x1_S32x128x3_2_1_0_0_1_2_113.siIdx (ix3 b g c) ⟨0, by decide⟩ = ix3 b g 0 := by
    funext a; fin_cases a <;> rfl
  funext a
  apply Fin.ext
  fin_cases a
  · show 0 + (b : ℕ) + 0 = (b : ℕ)
    omega
  · show min (idx (gather_S32x8192x3_S32x128x1_S32x128x3_2_1_0_0_1_2_113.siIdx (ix3 b g c) ⟨0, by decide⟩)).toInt.toNat (8192 - 1) + 0 + 0 = (n : ℕ)
    rw [s1, h, e1]
    have := n.isLt
    omega
  · show 0 + 0 + (c : ℕ) = (c : ℕ)
    omega

/-- The centres at the recorded words, where each is a place. -/
theorem centers_apply (cs : IVec S32x128 32) (b : Fin 32) (g : Fin 128) (c : Fin 3) (n : Fin 8192)
    (h : cs (ix2 b g) = BitVec.ofNat 32 n) : centers X cs (ix3 b g c) = X (ix3 b n c) := by
  have hn := n.isLt
  have hlt : (cs (ix2 b g)).toNat < 8192 := by rw [h, BitVec.toNat_ofNat]; omega
  have hw : wrapC (broadcastInDim S32x128x1 ![0, 1] bcast_S32x128_S32x128x1_0_1 cs) (ix3 b g 0) = BitVec.ofNat 32 n := by
    pointwise [wrapC]
    rw [slt_zero_of_lt _ hlt, h]
    rfl
  have hi : inC (wrapC (broadcastInDim S32x128x1 ![0, 1] bcast_S32x128_S32x128x1_0_1 cs)) (ix2 b g) = 1#1 := by
    generalize wrapC (broadcastInDim S32x128x1 ![0, 1] bcast_S32x128_S32x128x1_0_1 cs) = w at hw
    have e1 : (BitVec.ofNat 32 (n : ℕ)).toInt = (n : ℕ) := by
      rw [BitVec.toInt_eq_toNat_cond, BitVec.toNat_ofNat]; split <;> omega
    have h1 : IntOp.cmpi .sge (BitVec.ofNat 32 n) 0#32 = 1#1 := by
      simp [IntOp.cmpi, BitVec.sle, e1]
    have h2 : IntOp.cmpi .sle (BitVec.ofNat 32 n) 8191#32 = 1#1 := by
      have : ((n : ℕ) : ℤ) ≤ 8191 := by omega
      simp [IntOp.cmpi, BitVec.sle, e1, this]
    pointwise [inC]
    rw [Finset.univ_unique, Finset.fold_singleton]
    show IntOp.andi (IntOp.andi (IntOp.cmpi .sge (w (ix3 b g 0)) 0#32) (IntOp.cmpi .sle (w (ix3 b g 0)) 8191#32)) 1#1 = 1#1
    rw [hw, h1, h2]
    rfl
  unfold centers takeC
  generalize wrapC (broadcastInDim S32x128x1 ![0, 1] bcast_S32x128_S32x128x1_0_1 cs) = w at hw hi
  generalize inC w = q at hi
  pointwise
  rw [hi, gather3_apply X w b g c n hw]
  rfl

/-- Words set in one column, at an entry. -/
theorem set_apply (k : ℕ) (hk : k < 128) (w : IVec S1 32) (hw : ∀ i, w i = BitVec.ofNat 32 k) (f : IVec S32 32)
    (cs : IVec S32x128 32) (b : Fin 32) (g : Fin 128) :
    Host.scatter scatter_S32x128_S1_S32_0_1_1_0 (fun _ b => b) cs w f (ix2 b g)
      = if (g : ℕ) = k then f (ix1 b) else cs (ix2 b g) := by
  have ek : (BitVec.ofNat 32 k).toInt = k := by
    rw [BitVec.toInt_eq_toNat_cond, BitVec.toNat_ofNat]; split <;> omega
  have hl : ∀ (u : Fin 32), scatter_S32x128_S1_S32_0_1_1_0.resultIdx? (ix1 u) w = some (ix2 b g) ↔ u = b ∧ (g : ℕ) = k := by
    intro u
    rw [Routing.resultIdx?_eq_some]
    have a0 : scatter_S32x128_S1_S32_0_1_1_0.start (ix1 u) w 0 + (scatter_S32x128_S1_S32_0_1_1_0.window (ix1 u) 0 : ℤ) = (u : ℕ) := by
      show (0 : ℤ) + ((u : ℕ) : ℤ) = _
      omega
    have a1 : scatter_S32x128_S1_S32_0_1_1_0.start (ix1 u) w 1 + (scatter_S32x128_S1_S32_0_1_1_0.window (ix1 u) 1 : ℤ) = k := by
      show (w (scatter_S32x128_S1_S32_0_1_1_0.siIdx (ix1 u) ⟨0, by decide⟩)).toInt + ((0 : ℕ) : ℤ) = _
      rw [hw, ek]
      omega
    constructor
    · intro h
      have h0 := h 0
      have h1 := h 1
      rw [a0] at h0
      rw [a1] at h1
      have h0' : ((u : ℕ) : ℤ) = ((b : ℕ) : ℤ) := h0
      have h1' : (k : ℤ) = ((g : ℕ) : ℤ) := h1
      exact ⟨Fin.ext (by omega), by omega⟩
    · rintro ⟨rfl, hg⟩ a
      fin_cases a
      · exact a0
      · refine a1.trans ?_
        show (k : ℤ) = ((g : ℕ) : ℤ)
        omega
  by_cases hg : (g : ℕ) = k
  · rw [if_pos hg]
    refine Routing.scatter_set_hit _ cs w f (ix2 b g) _ ?_ (ix1 b) ((hl b).2 ⟨rfl, hg⟩)
    intro u hu
    obtain ⟨u0, rfl⟩ : ∃ u0 : Fin 32, u = ix1 u0 := ⟨u 0, eq_ix1 u⟩
    rw [((hl u0).1 hu).1]
  · rw [if_neg hg]
    refine Routing.scatter_set_miss _ cs w f (ix2 b g) ?_
    intro u hu
    obtain ⟨u0, rfl⟩ : ∃ u0 : Fin 32, u = ix1 u0 := ⟨u 0, eq_ix1 u⟩
    exact hg ((hl u0).1 hu).2

/-- A round's words recorded, at an entry. -/
theorem record_apply (k : ℕ) (hk : k < 128) (f : IVec S32 32) (cs : IVec S32x128 32) (b : Fin 32) (g : Fin 128) :
    record (fun _ => Scf.iv 0#32 1#32 k) f cs (ix2 b g) = if (g : ℕ) = k then f (ix1 b) else cs (ix2 b g) := by
  have hiv : Scf.iv 0#32 1#32 k = BitVec.ofNat 32 k := by simp [Scf.iv]
  have hlt : (BitVec.ofNat 32 k).toNat < 8192 := by rw [BitVec.toNat_ofNat]; omega
  have hw : ∀ i : S1.Idx, broadcastInDim S1 ![] bcast_S_S1
      (select (cmpi .slt (fun _ => Scf.iv 0#32 1#32 k) (constantI S_ 32 0#32))
        (addi (fun _ => Scf.iv 0#32 1#32 k) (constantI S_ 32 128#32)) (fun _ => Scf.iv 0#32 1#32 k)) i = BitVec.ofNat 32 k := by
    intro i
    pointwise
    rw [hiv, slt_zero_of_lt _ hlt]
    rfl
  exact set_apply k hk _ hw f cs b g

end Cert.Proof.Ref
-- ==== Proof.Centers.lean ====
/-
  The kernel's centres are the reference's: round by round the two samplings hold the same distances and the same choice,
  and the kernel's recorded coordinates are those of the points the reference's recorded words name.
-/
module

public import proofs.«01_k».proof.Proof.ArgMax
public import proofs.«01_k».proof.Proof.Words
public import proofs.«01_k».proof.Proof.RefRead

@[expose] public section

set_option maxRecDepth 16384

noncomputable section

namespace Cert.Proof.Ker

open Cert.KernelIdeal Cert.KernelIdeal.Gen
open Idealize.ShloMosaic Idealize.SL.Sem

variable (X : FVec Ideal S32x8192x3 .f32) (x y z d : FVec Ideal S32x8192 .f32)

/-! ## The kernel's pieces at an index -/

theorem pay14_eq : k0_pay14 x = x := by
  funext j
  pointwise [k0_pay14]

theorem pay15_eq : k0_pay15 x = x := by
  funext j
  pointwise [k0_pay15]

theorem pay16_eq : k0_pay16 x = x := by
  funext j
  pointwise [k0_pay16]

theorem cmpi_eq_ite (a c : BitVec 32) : IntOp.cmpi .eq a c = if a = c then 1#1 else 0#1 := by
  by_cases h : a = c
  · simp [IntOp.cmpi, h]
  · have e : (a == c) = false := beq_eq_false_iff_ne.2 h
    simp [IntOp.cmpi, h, e]

theorem eq_word_iff (k n : Fin 8192) : IntOp.cmpi .eq (BitVec.ofNat 32 (k : ℕ)) (BitVec.ofNat 32 (n : ℕ)) = if k = n then 1#1 else 0#1 := by
  have h : BitVec.ofNat 32 (k : ℕ) = BitVec.ofNat 32 (n : ℕ) ↔ k = n := by
    constructor
    · intro e
      have := congrArg BitVec.toNat e
      rw [BitVec.toNat_ofNat, BitVec.toNat_ofNat] at this
      exact Fin.ext (by omega)
    · rintro rfl; rfl
  simp only [cmpi_eq_ite, h]

/-- A row summed with every place but one at zero. -/
theorem sum_pick (v : Fin 8192 → EReal) (n : Fin 8192) :
    (∑ k : Fin 8192, Scalar.select (IntOp.cmpi .eq (BitVec.ofNat 32 (k : ℕ)) (BitVec.ofNat 32 (n : ℕ))) (v k) 0) = v n := by
  rw [Finset.sum_eq_single n]
  · rw [eq_word_iff, if_pos rfl]; rfl
  · intro k _ hk
    rw [eq_word_iff, if_neg hk]; rfl
  · intro h; exact absurd (Finset.mem_univ _) h

variable (f : IVec S32x1 32) (b : Fin 32) (n : Fin 8192)

theorem pay4_apply (h : f (ix2 b 0) = BitVec.ofNat 32 n) : k0_pay4 x places f (ix2 b 0) = x (ix2 b n) := by
  pointwise [k0_pay4, k0_pay3]
  rw [h]
  exact sum_pick (fun k => x (ix2 b k)) n

theorem pay5_apply (h : f (ix2 b 0) = BitVec.ofNat 32 n) : k0_pay5 x places f (ix2 b 0) = x (ix2 b n) := by
  pointwise [k0_pay5, k0_pay3]
  rw [h]
  exact sum_pick (fun k => x (ix2 b k)) n

theorem pay6_apply (h : f (ix2 b 0) = BitVec.ofNat 32 n) : k0_pay6 x places f (ix2 b 0) = x (ix2 b n) := by
  pointwise [k0_pay6, k0_pay3]
  rw [h]
  exact sum_pick (fun k => x (ix2 b k)) n

/-- Whether a round's column is the round's number. -/
theorem round_word (g : Fin 128) (k : ℕ) (hk : k < 128) :
    IntOp.cmpi .eq (BitVec.ofNat 32 (g : ℕ)) (Scf.iv 0#32 1#32 k) = if (g : ℕ) = k then 1#1 else 0#1 := by
  have hiv : Scf.iv 0#32 1#32 k = BitVec.ofNat 32 k := by simp [Scf.iv]
  have hg := g.isLt
  have h : BitVec.ofNat 32 (g : ℕ) = BitVec.ofNat 32 k ↔ (g : ℕ) = k := by
    constructor
    · intro e
      have := congrArg BitVec.toNat e
      rw [BitVec.toNat_ofNat, BitVec.toNat_ofNat] at this
      omega
    · intro e; rw [e]
  rw [hiv]
  simp only [cmpi_eq_ite, h]

variable (k : Fin k0_t1_loop.trips) (hk : (k : ℕ) < 128) (v : FVec Ideal S32x128 .f32) (g : Fin 128)

include hk in
theorem pay9_apply (h : f (ix2 b 0) = BitVec.ofNat 32 n) :
    k0_pay9 x places rounds k f v (ix2 b g) = if (g : ℕ) = k then x (ix2 b n) else v (ix2 b g) := by
  pointwise [k0_pay9, k0_pay7]
  rw [round_word g k hk, pay4_apply x f b n h]
  split <;> rfl

include hk in
theorem pay10_apply (h : f (ix2 b 0) = BitVec.ofNat 32 n) :
    k0_pay10 x places rounds k f v (ix2 b g) = if (g : ℕ) = k then x (ix2 b n) else v (ix2 b g) := by
  pointwise [k0_pay10, k0_pay7]
  rw [round_word g k hk, pay5_apply x f b n h]
  split <;> rfl

include hk in
theorem pay11_apply (h : f (ix2 b 0) = BitVec.ofNat 32 n) :
    k0_pay11 x places rounds k f v (ix2 b g) = if (g : ℕ) = k then x (ix2 b n) else v (ix2 b g) := by
  pointwise [k0_pay11, k0_pay7]
  rw [round_word g k hk, pay6_apply x f b n h]
  split <;> rfl

/-! ## The start -/

/-- The kernel's squared distances to the mean. -/
def fromMean : FVec Ideal S32x8192 .f32 :=
  let mx := divf (shapeCast S32x1 (multiReduction .add [1] S32 (k0_pay14 x) 0x00000000#32 Facts₀.reduces_S32x8192_S32 (.inl rfl) rfl)
    Facts₀.shapeCasts_S32_S32x1) (broadcast S32x1 (Scalar.ofBits .f32 0x46000000#32))
  let my := divf (shapeCast S32x1 (multiReduction .add [1] S32 (k0_pay15 y) 0x00000000#32 Facts₀.reduces_S32x8192_S32 (.inl rfl) rfl)
    Facts₀.shapeCasts_S32_S32x1) (broadcast S32x1 (Scalar.ofBits .f32 0x46000000#32))
  let mz := divf (shapeCast S32x1 (multiReduction .add [1] S32 (k0_pay16 z) 0x00000000#32 Facts₀.reduces_S32x8192_S32 (.inl rfl) rfl)
    Facts₀.shapeCasts_S32_S32x1) (broadcast S32x1 (Scalar.ofBits .f32 0x46000000#32))
  let dx := subf (k0_pay14 x) (broadcastTo S32x8192 mx Facts₀.broadcasts_S32x1_S32x8192)
  let dy := subf (k0_pay15 y) (broadcastTo S32x8192 my Facts₀.broadcasts_S32x1_S32x8192)
  let dz := subf (k0_pay16 z) (broadcastTo S32x8192 mz Facts₀.broadcasts_S32x1_S32x8192)
  addf (addf (mulf dx dx) (mulf dy dy)) (mulf dz dz)

theorem pay17_eq : k0_pay17 (F := Ideal) x y z = firstOf (fromMean x y z) := rfl

theorem pay13_eq : k0_pay13 x y z places d f = firstOf (k0_pay12 x y z places d f) := rfl

theorem fromMean_eq : fromMean (cX X) (cY X) (cZ X) = Ref.distTo X (Ref.mean X) := by
  funext j
  obtain ⟨u, m, rfl⟩ : ∃ (u : Fin 32) (m : Fin 8192), j = ix2 u m := ⟨_, _, eq_ix2 j⟩
  simp only [fromMean, pay14_eq, pay15_eq, pay16_eq]
  pointwise [Ref.distTo, Ref.mean, cX, cY, cZ]
  rw [Fin.sum_univ_three]

theorem far_eq : (k0_pay18 : FVec Ideal S32x8192 .f32) = Ref.far := by
  funext j
  pointwise [k0_pay18, Ref.far]

/-! ## A round -/

/-- The distances after a round, where both sides chose one place of each batch. -/
theorem pay12_eq (f' : IVec Cert.ReferenceIdeal.S32 32) (hf : ∀ b, f (ix2 b 0) = f' (ix1 b))
    (hp : ∀ b, ∃ n : Fin 8192, f' (ix1 b) = BitVec.ofNat 32 n) :
    k0_pay12 (cX X) (cY X) (cZ X) places d f = Ref.closer X (iotaInDim Cert.ReferenceIdeal.S32 32 0) f' d := by
  funext j
  obtain ⟨u, m, rfl⟩ : ∃ (u : Fin 32) (m : Fin 8192), j = ix2 u m := ⟨_, _, eq_ix2 j⟩
  obtain ⟨n, hn⟩ := hp u
  have hn' : f (ix2 u 0) = BitVec.ofNat 32 n := (hf u).trans hn
  pointwise [k0_pay12, Ref.closer, Ref.distTo]
  rw [pay4_apply _ f u n hn', pay5_apply _ f u n hn', pay6_apply _ f u n hn', Fin.sum_univ_three,
    Ref.pointAt_apply X f' u 0 n hn, Ref.pointAt_apply X f' u 1 n hn, Ref.pointAt_apply X f' u 2 n hn]
  pointwise

/-- What the two samplings share before round `k`. -/
structure Agree (k : ℕ) (s : Carried Ideal) : Prop where
  dist : s.1 = (Ref.state X k).1
  choice : ∀ b, s.2.1 (ix2 b 0) = (Ref.state X k).2.1 (ix1 b)
  inRow : ∀ b, ∃ n : Fin 8192, (Ref.state X k).2.1 (ix1 b) = BitVec.ofNat 32 n
  recorded : ∀ (b : Fin 32) (g : Fin 128), ∃ n : Fin 8192, (Ref.state X k).2.2 (ix2 b g) = BitVec.ofNat 32 n
    ∧ ((g : ℕ) < k → s.2.2.2.1 (ix2 b g) = X (ix3 b n 0) ∧ s.2.2.2.2.1 (ix2 b g) = X (ix3 b n 1)
      ∧ s.2.2.2.2.2 (ix2 b g) = X (ix3 b n 2))

theorem agree_start : Agree X 0 (start (cX X) (cY X) (cZ X)) := by
  refine ⟨?_, fun b => ?_, fun b => ?_, fun b g => ⟨0, ?_, fun h => absurd h (Nat.not_lt_zero _)⟩⟩
  · rw [Ref.state_zero]
    exact far_eq
  · rw [Ref.state_zero]
    dsimp only [start]
    rw [pay17_eq, fromMean_eq]
    exact firstOf_eq _ b
  · rw [Ref.state_zero]
    dsimp only
    obtain ⟨n, h, _⟩ := Ref.argmax_first (Ref.distTo X (Ref.mean X)) b
    exact ⟨n, h⟩
  · rw [Ref.state_zero]
    rfl

theorem trips_eq : k0_t1_loop.trips = 128 := by decide

theorem agree_step (k : Fin k0_t1_loop.trips) (s : Carried Ideal) (h : Agree X k s) :
    Agree X (k + 1) (step (cX X) (cY X) (cZ X) k s) := by
  have hk : (k : ℕ) < 128 := trips_eq ▸ k.isLt
  obtain ⟨hd, hc, hr, ha⟩ := h
  have hs := Ref.state_succ X (k : ℕ)
  generalize Ref.state X (k : ℕ) = T at hd hc hr ha hs
  have h12 : k0_pay12 (cX X) (cY X) (cZ X) places s.1 s.2.1
      = Ref.closer X (iotaInDim Cert.ReferenceIdeal.S32 32 0) T.2.1 T.1 := by
    rw [pay12_eq X s.1 s.2.1 T.2.1 hc hr, hd]
  refine ⟨?_, fun b => ?_, fun b => ?_, fun b g => ?_⟩
  · rw [hs]
    dsimp only [step]
    rw [pay14_eq, pay15_eq, pay16_eq]
    exact h12
  · rw [hs]
    dsimp only [step]
    rw [pay14_eq, pay15_eq, pay16_eq, pay13_eq, h12]
    exact firstOf_eq _ b
  · rw [hs]
    dsimp only
    obtain ⟨n, h, _⟩ := Ref.argmax_first (Ref.closer X (iotaInDim Cert.ReferenceIdeal.S32 32 0) T.2.1 T.1) b
    exact ⟨n, h⟩
  · rw [hs]
    dsimp only [step]
    rw [pay14_eq, pay15_eq, pay16_eq, Ref.record_apply k hk]
    obtain ⟨n, hn⟩ := hr b
    have hf : s.2.1 (ix2 b 0) = BitVec.ofNat 32 n := (hc b).trans hn
    rw [pay9_apply _ _ b n k hk _ g hf, pay10_apply _ _ b n k hk _ g hf, pay11_apply _ _ b n k hk _ g hf]
    by_cases hg : (g : ℕ) = k
    · refine ⟨n, by rw [if_pos hg, hn], fun _ => ?_⟩
      simp only [if_pos hg]
      pointwise
    · obtain ⟨n', hn', hx⟩ := ha b g
      refine ⟨n', by rw [if_neg hg, hn'], fun hlt => ?_⟩
      simp only [if_neg hg]
      exact hx (by omega)

/-- The kernel's centres are the reference's. -/
theorem centers_eq : centers X = Ref.outC X := by
  have h := ended_induction (cX X) (cY X) (cZ X) (Agree X) (agree_start X) (agree_step X)
  rw [trips_eq] at h
  funext j
  obtain ⟨b, g, c, rfl⟩ : ∃ (b : Fin 32) (g : Fin 128) (c : Fin 3), j = ix3 b g c := ⟨_, _, _, eq_ix3 j⟩
  obtain ⟨n, hn, hx⟩ := h.recorded b g
  obtain ⟨h0, h1, h2⟩ := hx g.isLt
  unfold Ref.outC
  rw [Ref.centers_apply X _ b g c n hn]
  unfold centers endOf
  generalize ended (cX X) (cY X) (cZ X) = s at h0 h1 h2
  pointwise [stack]
  fin_vals c with hc
  all_goals simp only [hc, Nat.reduceSub, Nat.reduceLT, ↓reduceDIte]
  · obtain rfl : c = 0 := Fin.ext hc
    exact h0
  · obtain rfl : c = 1 := Fin.ext hc
    exact h1
  · obtain rfl : c = 2 := Fin.ext hc
    exact h2

end Cert.Proof.Ker
-- ==== Proof.lean ====
/-
  The claims' proofs: the three frames, the kernel's ideal program, and the equation between the results of the ideal
  kernel and those of the ideal reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Centers
public import Idealize.ShloMosaic.Adequacy
public import Idealize.ShloMosaic.Init

@[expose] public section

noncomputable section

namespace Cert.Proof

open Idealize.ShloMosaic Idealize.SL.Sem

/-- The two programs end with equal results: the kernel's centres are the reference's, and what each program computes from
    its centres is the same stages. -/
theorem algebraic : Cert.algebraic_KernelIdeal_ReferenceIdeal := by
  intro m g m' g' _ hargs
  refine ⟨fun c => Ref.tokens (F := Ideal)
      (Ref.outR (m ((c.tc : Thread Cert.KernelIdeal.nD Cert.KernelIdeal.τ).loc Cert.KernelIdeal.main_arg0))
        (Ref.outC (m ((c.tc : Thread Cert.KernelIdeal.nD Cert.KernelIdeal.τ).loc Cert.KernelIdeal.main_arg0))))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => Ref.outC (F := Ideal) (m ((c.tc : Thread Cert.KernelIdeal.nD Cert.KernelIdeal.τ).loc Cert.KernelIdeal.main_arg0)),
    fun c => Ref.outI (F := Ideal) (m ((c.tc : Thread Cert.KernelIdeal.nD Cert.KernelIdeal.τ).loc Cert.KernelIdeal.main_arg0))
      (Ref.outC (m ((c.tc : Thread Cert.KernelIdeal.nD Cert.KernelIdeal.τ).loc Cert.KernelIdeal.main_arg0))), ?_, ?_⟩
  · refine Idealize.ShloMosaic.θ_run_mono (θ_run_and (Ker.results m g) (Cert.KernelIdeal.Gen.frame m g)) fun r hr c => ?_
    obtain ⟨ht, hc, hi⟩ := hr.1 c
    rw [Ker.centers_eq] at ht hc hi
    exact ⟨ht, hc, hi, hr.2.1 c⟩
  · refine Idealize.ShloMosaic.θ_run_mono (θ_run_and (Ref.run m' g') (Ref.frame m' g')) fun r hr c => ?_
    obtain ⟨a0, a1, a2, a3, a4, a5, a6, a7, a8⟩ := hargs c
    obtain ⟨hc, hi, ht⟩ := Ref.final_read m' c _ a0
    have b1 : StableHlo.launchContents m' c (Proc.devRef .tc Cert.ReferenceIdeal.main_arg1) = _ := a1
    have b2 : StableHlo.launchContents m' c (Proc.devRef .tc Cert.ReferenceIdeal.main_arg2) = _ := a2
    have b3 : StableHlo.launchContents m' c (Proc.devRef .tc Cert.ReferenceIdeal.main_arg3) = _ := a3
    have b4 : StableHlo.launchContents m' c (Proc.devRef .tc Cert.ReferenceIdeal.main_arg4) = _ := a4
    have b5 : StableHlo.launchContents m' c (Proc.devRef .tc Cert.ReferenceIdeal.main_arg5) = _ := a5
    have b6 : StableHlo.launchContents m' c (Proc.devRef .tc Cert.ReferenceIdeal.main_arg6) = _ := a6
    have b7 : StableHlo.launchContents m' c (Proc.devRef .tc Cert.ReferenceIdeal.main_arg7) = _ := a7
    have b8 : StableHlo.launchContents m' c (Proc.devRef .tc Cert.ReferenceIdeal.main_arg8) = _ := a8
    rw [b1, b2, b3, b4, b5, b6, b7, b8] at ht
    exact ⟨(hr.1 c Cert.ReferenceIdeal.main_v69 rfl).trans ht, (hr.1 c Cert.ReferenceIdeal.main_v14 rfl).trans hc,
      (hr.1 c Cert.ReferenceIdeal.main_indices rfl).trans hi, hr.2.1 c⟩

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, fun m g _ => Ref.frame m g,
    trivial, algebraic⟩

end Cert.Proof

end
